-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positions_ordered [hPre_positions_ordered : Cert.Pre_positions_ordered.Facts] (m : (ℓ : Loc Cert.KernelIdeal.nD Cert.KernelIdeal.τ Cert.KernelIdeal.sig) → Buf (Elt Ideal) ℓ) : Prop :=
  ∀ c : Dev Cert.KernelIdeal.nD,
    (Cert.Pre_positions_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_ordered [hPre_positions_ordered : Cert.Pre_positions_ordered.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_positions_ordered [hKernelIdeal : Cert.KernelIdeal.Facts] [hPre_positions_ordered : Cert.Pre_positions_ordered.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positions_ordered m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_positions_ordered [hReferenceIdeal : Cert.ReferenceIdeal.Facts] [hPre_positions_ordered : Cert.Pre_positions_ordered.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_ordered m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S4x14x2x128 Cert.KernelIdeal.S4x14x1x128
  ∧ IdealRules.bf16_pair.Statement Cert.KernelIdeal.S28x256 Cert.KernelIdeal.S14x256
  ∧ IdealRules.bf16_pair.PackStatement Cert.KernelIdeal.S14x128
  ∧ IdealRules.bf16_pair.Statement Cert.KernelIdeal.S1x14x2x128 Cert.KernelIdeal.S1x14x1x128
  ∧ IdealRules.bf16_pair.Statement Cert.KernelIdeal.S1x1x2x128 Cert.KernelIdeal.S1x1x1x128
  ∧ IdealRules.bf16_pair.Statement Cert.KernelIdeal.S16x128 Cert.KernelIdeal.S8x128

def algebraic_KernelIdeal_ReferenceIdeal_pre_positions_ordered [hKernelIdeal : Cert.KernelIdeal.Facts] [hReferenceIdeal : Cert.ReferenceIdeal.Facts] [hPre_positions_ordered : Cert.Pre_positions_ordered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positions_ordered m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v382) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_positions_ordered : Cert.Pre_positions_ordered.Facts),
    quiescent_Kernel (hKernel := hKernel)
    ∧ quiescent_KernelIdeal (hKernelIdeal := hKernelIdeal)
    ∧ quiescent_KernelIdeal_pre_positions_ordered (hKernelIdeal := hKernelIdeal) (hPre_positions_ordered := hPre_positions_ordered)
    ∧ quiescent_ReferenceIdeal (hReferenceIdeal := hReferenceIdeal)
    ∧ quiescent_ReferenceIdeal_pre_positions_ordered (hReferenceIdeal := hReferenceIdeal) (hPre_positions_ordered := hPre_positions_ordered)
    ∧ preserves_Kernel_KernelIdeal
    ∧ algebraic_KernelIdeal_ReferenceIdeal_pre_positions_ordered (hKernelIdeal := hKernelIdeal) (hReferenceIdeal := hReferenceIdeal) (hPre_positions_ordered := hPre_positions_ordered)
-- ==== Pre_positions_ordered.lean ====
abbrev S256x1x3584 : Shape := ⟨3, ![256, 1, 3584]⟩
abbrev S1792x9472 : Shape := ⟨2, ![1792, 9472]⟩
abbrev S448x18944 : Shape := ⟨2, ![448, 18944]⟩
abbrev S28x18944 : Shape := ⟨2, ![28, 18944]⟩
abbrev S_ : Shape := ⟨0, ![]⟩

class Facts : Prop where
  natLt_8_32 : 8 < 32
  bcast_S_S448x18944 : S_.BroadcastsInDim S448x18944 (![] : Fin 0 → Fin S448x18944.rank)

variable [Facts]

def fn_part1 {F : FTy → Type} [FloatOps F] (main_v7 : IVec S448x18944 1) (main_v16 : IVec S448x18944 1) : IVec S448x18944 1 :=
  let main_v17 : IVec S448x18944 1 := andi main_v7 main_v16
  main_v17

def fn {F : FTy → Type} [FloatOps F] (main_arg0 : FVec F S256x1x3584 .bf16) (main_arg1 : IVec S1792x9472 8) (main_arg2 : IVec S448x18944 8) (main_arg3 : FVec F S28x18944 .bf16) : IVec S448x18944 1 :=
  let main_v0 : IVec S448x18944 32 := (extui 32 · natLt_8_32) main_arg2
  let main_c : IVec S_ 32 := constantI S_ 32 3#32
  let main_v1 : IVec S448x18944 32 := broadcastInDim S448x18944 ![] bcast_S_S448x18944 main_c
  let main_v2 : IVec S448x18944 32 := andi main_v0 main_v1
  let main_c_0 : IVec S_ 32 := constantI S_ 32 2#32
  let main_v3 : IVec S448x18944 32 := broadcastInDim S448x18944 ![] bcast_S_S448x18944 main_c_0
  let main_v4 : IVec S448x18944 32 := Host.shrsi main_v0 main_v3
  let main_c_1 : IVec S_ 32 := constantI S_ 32 3#32
  let main_v5 : IVec S448x18944 32 := broadcastInDim S448x18944 ![] bcast_S_S448x18944 main_c_1
  let main_v6 : IVec S448x18944 32 := andi main_v4 main_v5
  let main_v7 : IVec S448x18944 1 := cmpi .slt main_v2 main_v6
  let main_c_2 : IVec S_ 32 := constantI S_ 32 4#32
  let main_v8 : IVec S448x18944 32 := broadcastInDim S448x18944 ![] bcast_S_S448x18944 main_c_2
  let main_v9 : IVec S448x18944 32 := Host.shrsi main_v0 main_v8
  let main_c_3 : IVec S_ 32 := constantI S_ 32 3#32
  let main_v10 : IVec S448x18944 32 := broadcastInDim S448x18944 ![] bcast_S_S448x18944 main_c_3
  let main_v11 : IVec S448x18944 32 := andi main_v9 main_v10
  let main_c_4 : IVec S_ 32 := constantI S_ 32 6#32
  let main_v12 : IVec S448x18944 32 := broadcastInDim S448x18944 ![] bcast_S_S448x18944 main_c_4
  let main_v13 : IVec S448x18944 32 := Host.shrsi main_v0 main_v12
  let main_c_5 : IVec S_ 32 := constantI S_ 32 3#32
  let main_v14 : IVec S448x18944 32 := broadcastInDim S448x18944 ![] bcast_S_S448x18944 main_c_5
  let main_v15 : IVec S448x18944 32 := andi main_v13 main_v14
  let main_v16 : IVec S448x18944 1 := cmpi .slt main_v11 main_v15
  fn_part1 (F := F) main_v7 main_v16
-- ==== Kernel.lean ====
abbrev S256x1x3584 : Shape := ⟨3, ![256, 1, 3584]⟩
abbrev S1792x9472 : Shape := ⟨2, ![1792, 9472]⟩
abbrev S448x18944 : Shape := ⟨2, ![448, 18944]⟩
abbrev S28x18944 : Shape := ⟨2, ![28, 18944]⟩
abbrev S256x3584 : Shape := ⟨2, ![256, 3584]⟩
abbrev S256x18944 : Shape := ⟨2, ![256, 18944]⟩
abbrev S1792x128 : Shape := ⟨2, ![1792, 128]⟩
abbrev S448x256 : Shape := ⟨2, ![448, 256]⟩
abbrev S28x256 : Shape := ⟨2, ![28, 256]⟩
abbrev S256x256 : Shape := ⟨2, ![256, 256]⟩
abbrev S14x256x256 : Shape := ⟨3, ![14, 256, 256]⟩
abbrev S4x14x128 : Shape := ⟨3, ![4, 14, 128]⟩
abbrev S1x256x256 : Shape := ⟨3, ![1, 256, 256]⟩
abbrev S14x256 : Shape := ⟨2, ![14, 256]⟩
abbrev S14x128 : Shape := ⟨2, ![14, 128]⟩
abbrev S14x128x1 : Shape := ⟨3, ![14, 128, 1]⟩
abbrev S1x14x128 : Shape := ⟨3, ![1, 14, 128]⟩
abbrev S8x128 : Shape := ⟨2, ![8, 128]⟩
abbrev S32x128 : Shape := ⟨2, ![32, 128]⟩
abbrev S128x128 : Shape := ⟨2, ![128, 128]⟩
abbrev S8x4x128 : Shape := ⟨3, ![8, 4, 128]⟩
abbrev S8x1x128 : Shape := ⟨3, ![8, 1, 128]⟩
abbrev S32x256 : Shape := ⟨2, ![32, 256]⟩
abbrev S8x256 : Shape := ⟨2, ![8, 256]⟩
abbrev S8x128x1 : Shape := ⟨3, ![8, 128, 1]⟩
abbrev S1x1x128 : Shape := ⟨3, ![1, 1, 128]⟩
abbrev S1x128 : Shape := ⟨2, ![1, 128]⟩
abbrev S16x128 : Shape := ⟨2, ![16, 128]⟩
abbrev S256x128 : Shape := ⟨2, ![256, 128]⟩
abbrev S16x128x1 : Shape := ⟨3, ![16, 128, 1]⟩

abbrev nBuf : Space → Nat
  | .hbm => 6
  | .vmem => 11
  | .smem => 0
  | _ => 0

abbrev bufTy : (tb : Table) → Fin (tcTables nBuf tb) → BufTy
  | .hbm, ⟨0, _⟩ => ⟨S256x1x3584, .bf16⟩
  | .hbm, ⟨1, _⟩ => ⟨S1792x9472, .i8⟩
  | .hbm, ⟨2, _⟩ => ⟨S448x18944, .i8⟩
  | .hbm, ⟨3, _⟩ => ⟨S28x18944, .bf16⟩
  | .hbm, ⟨4, _⟩ => ⟨S256x3584, .bf16⟩
  | .hbm, ⟨5, _⟩ => ⟨S256x18944, .bf16⟩
  | .local _ .vmem, ⟨0, _⟩ => ⟨S256x3584, .bf16⟩
  | .local _ .vmem, ⟨1, _⟩ => ⟨S1792x128, .i8⟩
  | .local _ .vmem, ⟨2, _⟩ => ⟨S1792x128, .i8⟩
  | .local _ .vmem, ⟨3, _⟩ => ⟨S448x256, .i8⟩
  | .local _ .vmem, ⟨4, _⟩ => ⟨S448x256, .i8⟩
  | .local _ .vmem, ⟨5, _⟩ => ⟨S28x256, .bf16⟩
  | .local _ .vmem, ⟨6, _⟩ => ⟨S28x256, .bf16⟩
  | .local _ .vmem, ⟨7, _⟩ => ⟨S256x256, .bf16⟩
  | .local _ .vmem, ⟨8, _⟩ => ⟨S256x256, .bf16⟩
  | .local _ .vmem, ⟨9, _⟩ => ⟨S14x256x256, .bf16⟩
  | .local _ .vmem, ⟨10, _⟩ => ⟨S4x14x128, .i32⟩
  | _, _ => ⟨S256x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![74], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1792x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S448x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S28x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
abbrev S4x14x2x128 : Shape := ⟨4, ![4, 14, 2, 128]⟩
abbrev S4x14x1x128 : Shape := ⟨4, ![4, 14, 1, 128]⟩
abbrev S1x14x2x128 : Shape := ⟨4, ![1, 14, 2, 128]⟩
abbrev S1x14x1x128 : Shape := ⟨4, ![1, 14, 1, 128]⟩
abbrev S1x1x2x128 : Shape := ⟨4, ![1, 1, 2, 128]⟩
abbrev S1x1x1x128 : Shape := ⟨4, ![1, 1, 1, 128]⟩
  | .local _ .vmem, ⟨10, _⟩ => ⟨S4x14x2x128, .bf16⟩
variable {F : FTy → Type} [FloatOps F]
-- ==== ReferenceIdeal.lean ====
abbrev S256x1x3584 : Shape := ⟨3, ![256, 1, 3584]⟩
abbrev S1792x9472 : Shape := ⟨2, ![1792, 9472]⟩
abbrev S448x18944 : Shape := ⟨2, ![448, 18944]⟩
abbrev S28x18944 : Shape := ⟨2, ![28, 18944]⟩
abbrev S2 : Shape := ⟨1, ![2]⟩
abbrev S256x1x448x2x4 : Shape := ⟨5, ![256, 1, 448, 2, 4]⟩
abbrev S448x2x2x9472 : Shape := ⟨4, ![448, 2, 2, 9472]⟩
abbrev S448x9472 : Shape := ⟨2, ![448, 9472]⟩
abbrev S28x9472 : Shape := ⟨2, ![28, 9472]⟩
abbrev S28x16x9472 : Shape := ⟨3, ![28, 16, 9472]⟩
abbrev S448x1x9472 : Shape := ⟨3, ![448, 1, 9472]⟩
abbrev S1x2x1 : Shape := ⟨3, ![1, 2, 1]⟩
abbrev S448x2x1x9472 : Shape := ⟨4, ![448, 2, 1, 9472]⟩
abbrev S448x2x9472 : Shape := ⟨3, ![448, 2, 9472]⟩
abbrev S_ : Shape := ⟨0, ![]⟩
abbrev S256x1x448x1x1 : Shape := ⟨5, ![256, 1, 448, 1, 1]⟩
abbrev S256x1x448 : Shape := ⟨3, ![256, 1, 448]⟩
abbrev S256x1x9472 : Shape := ⟨3, ![256, 1, 9472]⟩
abbrev S256x1x9472x1 : Shape := ⟨4, ![256, 1, 9472, 1]⟩
abbrev S256x1x9472x2 : Shape := ⟨4, ![256, 1, 9472, 2]⟩
abbrev S256x18944 : Shape := ⟨2, ![256, 18944]⟩

abbrev nBuf : Space → Nat
  | .hbm => 473
  | .vmem => 0
  | .smem => 0
  | _ => 0

abbrev hbmTy0_0 (i : Nat) : BufTy := match i % 128 with
  | 0 => ⟨S256x1x3584, .bf16⟩
  | 1 => ⟨S1792x9472, .i8⟩
  | 2 => ⟨S448x18944, .i8⟩
  | 3 => ⟨S28x18944, .bf16⟩
  | 4 => ⟨S2, .i32⟩
  | 5 => ⟨S2, .i32⟩
  | 6 => ⟨S256x1x448x2x4, .bf16⟩
  | 7 => ⟨S448x18944, .i32⟩
  | 8 => ⟨S1792x9472, .i32⟩
  | 9 => ⟨S448x2x2x9472, .i32⟩
  | 10 => ⟨S448x9472, .i32⟩
  | 11 => ⟨S28x9472, .bf16⟩
  | 12 => ⟨S28x16x9472, .bf16⟩
  | 13 => ⟨S448x9472, .bf16⟩
  | 14 => ⟨S448x1x9472, .bf16⟩
  | 15 => ⟨S1x2x1, .i32⟩
  | 16 => ⟨S448x2x1x9472, .i32⟩
  | 17 => ⟨S448x2x9472, .i32⟩
  | 18 => ⟨S_, .i32⟩
  | 19 => ⟨S448x2x9472, .i32⟩
  | 20 => ⟨S448x2x9472, .i32⟩
  | 21 => ⟨S_, .i32⟩
  | 22 => ⟨S448x2x9472, .i32⟩
  | 23 => ⟨S448x2x9472, .i32⟩
  | 24 => ⟨S448x2x9472, .bf16⟩
  | 25 => ⟨S_, .bf16⟩
  | 26 => ⟨S448x2x9472, .bf16⟩
  | 27 => ⟨S448x2x9472, .bf16⟩
  | 28 => ⟨S448x2x9472, .bf16⟩
  | 29 => ⟨S448x2x9472, .bf16⟩
  | 30 => ⟨S448x1x9472, .i32⟩
  | 31 => ⟨S_, .i32⟩
  | 32 => ⟨S1x2x1, .i32⟩
  | 33 => ⟨S1x2x1, .i32⟩
  | 34 => ⟨S448x2x9472, .i32⟩
  | 35 => ⟨S448x2x9472, .i32⟩
  | 36 => ⟨S448x2x9472, .i32⟩
  | 37 => ⟨S_, .i32⟩
  | 38 => ⟨S448x2x9472, .i32⟩
  | 39 => ⟨S448x2x9472, .i32⟩
  | 40 => ⟨S448x2x1x9472, .i32⟩
  | 41 => ⟨S448x2x9472, .i32⟩
  | 42 => ⟨S_, .i32⟩
  | 43 => ⟨S448x2x9472, .i32⟩
  | 44 => ⟨S448x2x9472, .i32⟩
  | 45 => ⟨S_, .i32⟩
  | 46 => ⟨S448x2x9472, .i32⟩
  | 47 => ⟨S448x2x9472, .i32⟩
  | 48 => ⟨S448x2x9472, .bf16⟩
  | 49 => ⟨S_, .bf16⟩
  | 50 => ⟨S448x2x9472, .bf16⟩
  | 51 => ⟨S448x2x9472, .bf16⟩
  | 52 => ⟨S448x2x9472, .bf16⟩
  | 53 => ⟨S448x2x9472, .bf16⟩
  | 54 => ⟨S448x1x9472, .i32⟩
  | 55 => ⟨S_, .i32⟩
  | 56 => ⟨S1x2x1, .i32⟩
  | 57 => ⟨S1x2x1, .i32⟩
  | 58 => ⟨S448x2x9472, .i32⟩
  | 59 => ⟨S448x2x9472, .i32⟩
  | 60 => ⟨S448x2x9472, .i32⟩
  | 61 => ⟨S_, .i32⟩
  | 62 => ⟨S448x2x9472, .i32⟩
  | 63 => ⟨S448x2x9472, .i32⟩
  | 64 => ⟨S448x1x9472, .i32⟩
  | 65 => ⟨S448x9472, .i32⟩
  | 66 => ⟨S_, .i32⟩
  | 67 => ⟨S448x9472, .i32⟩
  | 68 => ⟨S448x9472, .i1⟩
  | 69 => ⟨S448x1x9472, .bf16⟩
  | 70 => ⟨S448x9472, .bf16⟩
  | 71 => ⟨S448x1x9472, .i32⟩
  | 72 => ⟨S448x9472, .i32⟩
  | 73 => ⟨S_, .i32⟩
  | 74 => ⟨S448x9472, .i32⟩
  | 75 => ⟨S448x9472, .i1⟩
  | 76 => ⟨S448x1x9472, .bf16⟩
  | 77 => ⟨S448x9472, .bf16⟩
  | 78 => ⟨S_, .bf16⟩
  | 79 => ⟨S448x9472, .bf16⟩
  | 80 => ⟨S448x9472, .bf16⟩
  | 81 => ⟨S448x9472, .bf16⟩
  | 82 => ⟨S256x1x448x1x1, .bf16⟩
  | 83 => ⟨S256x1x448, .bf16⟩
  | 84 => ⟨S256x1x9472, .f32⟩
  | 85 => ⟨S448x1x9472, .i32⟩
  | 86 => ⟨S448x9472, .i32⟩
  | 87 => ⟨S_, .i32⟩
  | 88 => ⟨S448x9472, .i32⟩
  | 89 => ⟨S448x9472, .i1⟩
  | 90 => ⟨S448x1x9472, .bf16⟩
  | 91 => ⟨S448x9472, .bf16⟩
  | 92 => ⟨S448x1x9472, .i32⟩
  | 93 => ⟨S448x9472, .i32⟩
  | 94 => ⟨S_, .i32⟩
  | 95 => ⟨S448x9472, .i32⟩
  | 96 => ⟨S448x9472, .i1⟩
  | 97 => ⟨S448x1x9472, .bf16⟩
  | 98 => ⟨S448x9472, .bf16⟩
  | 99 => ⟨S_, .bf16⟩
  | 100 => ⟨S448x9472, .bf16⟩
  | 101 => ⟨S448x9472, .bf16⟩
  | 102 => ⟨S448x9472, .bf16⟩
  | 103 => ⟨S256x1x448x1x1, .bf16⟩
  | 104 => ⟨S256x1x448, .bf16⟩
  | 105 => ⟨S256x1x9472, .f32⟩
  | 106 => ⟨S256x1x9472, .f32⟩
  | 107 => ⟨S448x1x9472, .i32⟩
  | 108 => ⟨S448x9472, .i32⟩
  | 109 => ⟨S_, .i32⟩
  | 110 => ⟨S448x9472, .i32⟩
  | 111 => ⟨S448x9472, .i1⟩
  | 112 => ⟨S448x1x9472, .bf16⟩
  | 113 => ⟨S448x9472, .bf16⟩
  | 114 => ⟨S448x1x9472, .i32⟩
  | 115 => ⟨S448x9472, .i32⟩
  | 116 => ⟨S_, .i32⟩
  | 117 => ⟨S448x9472, .i32⟩
  | 118 => ⟨S448x9472, .i1⟩
  | 119 => ⟨S448x1x9472, .bf16⟩
  | 120 => ⟨S448x9472, .bf16⟩
  | 121 => ⟨S_, .bf16⟩
  | 122 => ⟨S448x9472, .bf16⟩
  | 123 => ⟨S448x9472, .bf16⟩
  | 124 => ⟨S448x9472, .bf16⟩
  | 125 => ⟨S256x1x448x1x1, .bf16⟩
  | 126 => ⟨S256x1x448, .bf16⟩
  | 127 => ⟨S256x1x9472, .f32⟩
  | _ => ⟨S256x1x3584, .bf16⟩

abbrev hbmTy0_1 (i : Nat) : BufTy := match i % 128 with
  | 0 => ⟨S256x1x9472, .f32⟩
  | 1 => ⟨S448x1x9472, .i32⟩
  | 2 => ⟨S448x9472, .i32⟩
  | 3 => ⟨S_, .i32⟩
  | 4 => ⟨S448x9472, .i32⟩
  | 5 => ⟨S448x9472, .i1⟩
  | 6 => ⟨S448x1x9472, .bf16⟩
  | 7 => ⟨S448x9472, .bf16⟩
  | 8 => ⟨S448x1x9472, .i32⟩
  | 9 => ⟨S448x9472, .i32⟩
  | 10 => ⟨S_, .i32⟩
  | 11 => ⟨S448x9472, .i32⟩
  | 12 => ⟨S448x9472, .i1⟩
  | 13 => ⟨S448x1x9472, .bf16⟩
  | 14 => ⟨S448x9472, .bf16⟩
  | 15 => ⟨S_, .bf16⟩
  | 16 => ⟨S448x9472, .bf16⟩
  | 17 => ⟨S448x9472, .bf16⟩
  | 18 => ⟨S448x9472, .bf16⟩
  | 19 => ⟨S256x1x448x1x1, .bf16⟩
  | 20 => ⟨S256x1x448, .bf16⟩
  | 21 => ⟨S256x1x9472, .f32⟩
  | 22 => ⟨S256x1x9472, .f32⟩
  | 23 => ⟨S448x1x9472, .i32⟩
  | 24 => ⟨S448x9472, .i32⟩
  | 25 => ⟨S_, .i32⟩
  | 26 => ⟨S448x9472, .i32⟩
  | 27 => ⟨S448x9472, .i1⟩
  | 28 => ⟨S448x1x9472, .bf16⟩
  | 29 => ⟨S448x9472, .bf16⟩
  | 30 => ⟨S448x1x9472, .i32⟩
  | 31 => ⟨S448x9472, .i32⟩
  | 32 => ⟨S_, .i32⟩
  | 33 => ⟨S448x9472, .i32⟩
  | 34 => ⟨S448x9472, .i1⟩
  | 35 => ⟨S448x1x9472, .bf16⟩
  | 36 => ⟨S448x9472, .bf16⟩
  | 37 => ⟨S_, .bf16⟩
  | 38 => ⟨S448x9472, .bf16⟩
  | 39 => ⟨S448x9472, .bf16⟩
  | 40 => ⟨S448x9472, .bf16⟩
  | 41 => ⟨S256x1x448x1x1, .bf16⟩
  | 42 => ⟨S256x1x448, .bf16⟩
  | 43 => ⟨S256x1x9472, .f32⟩
  | 44 => ⟨S256x1x9472, .f32⟩
  | 45 => ⟨S448x1x9472, .i32⟩
  | 46 => ⟨S448x9472, .i32⟩
  | 47 => ⟨S_, .i32⟩
  | 48 => ⟨S448x9472, .i32⟩
  | 49 => ⟨S448x9472, .i1⟩
  | 50 => ⟨S448x1x9472, .bf16⟩
  | 51 => ⟨S448x9472, .bf16⟩
  | 52 => ⟨S448x1x9472, .i32⟩
  | 53 => ⟨S448x9472, .i32⟩
  | 54 => ⟨S_, .i32⟩
  | 55 => ⟨S448x9472, .i32⟩
  | 56 => ⟨S448x9472, .i1⟩
  | 57 => ⟨S448x1x9472, .bf16⟩
  | 58 => ⟨S448x9472, .bf16⟩
  | 59 => ⟨S_, .bf16⟩
  | 60 => ⟨S448x9472, .bf16⟩
  | 61 => ⟨S448x9472, .bf16⟩
  | 62 => ⟨S448x9472, .bf16⟩
  | 63 => ⟨S256x1x448x1x1, .bf16⟩
  | 64 => ⟨S256x1x448, .bf16⟩
  | 65 => ⟨S256x1x9472, .f32⟩
  | 66 => ⟨S256x1x9472, .f32⟩
  | 67 => ⟨S448x1x9472, .i32⟩
  | 68 => ⟨S448x9472, .i32⟩
  | 69 => ⟨S_, .i32⟩
  | 70 => ⟨S448x9472, .i32⟩
  | 71 => ⟨S448x9472, .i1⟩
  | 72 => ⟨S448x1x9472, .bf16⟩
  | 73 => ⟨S448x9472, .bf16⟩
  | 74 => ⟨S448x1x9472, .i32⟩
  | 75 => ⟨S448x9472, .i32⟩
  | 76 => ⟨S_, .i32⟩
  | 77 => ⟨S448x9472, .i32⟩
  | 78 => ⟨S448x9472, .i1⟩
  | 79 => ⟨S448x1x9472, .bf16⟩
  | 80 => ⟨S448x9472, .bf16⟩
  | 81 => ⟨S_, .bf16⟩
  | 82 => ⟨S448x9472, .bf16⟩
  | 83 => ⟨S448x9472, .bf16⟩
  | 84 => ⟨S448x9472, .bf16⟩
  | 85 => ⟨S256x1x448x1x1, .bf16⟩
  | 86 => ⟨S256x1x448, .bf16⟩
  | 87 => ⟨S256x1x9472, .f32⟩
  | 88 => ⟨S256x1x9472, .f32⟩
  | 89 => ⟨S448x1x9472, .i32⟩
  | 90 => ⟨S448x9472, .i32⟩
  | 91 => ⟨S_, .i32⟩
  | 92 => ⟨S448x9472, .i32⟩
  | 93 => ⟨S448x9472, .i1⟩
  | 94 => ⟨S448x1x9472, .bf16⟩
  | 95 => ⟨S448x9472, .bf16⟩
  | 96 => ⟨S448x1x9472, .i32⟩
  | 97 => ⟨S448x9472, .i32⟩
  | 98 => ⟨S_, .i32⟩
  | 99 => ⟨S448x9472, .i32⟩
  | 100 => ⟨S448x9472, .i1⟩
  | 101 => ⟨S448x1x9472, .bf16⟩
  | 102 => ⟨S448x9472, .bf16⟩
  | 103 => ⟨S_, .bf16⟩
  | 104 => ⟨S448x9472, .bf16⟩
  | 105 => ⟨S448x9472, .bf16⟩
  | 106 => ⟨S448x9472, .bf16⟩
  | 107 => ⟨S256x1x448x1x1, .bf16⟩
  | 108 => ⟨S256x1x448, .bf16⟩
  | 109 => ⟨S256x1x9472, .f32⟩
  | 110 => ⟨S256x1x9472, .f32⟩
  | 111 => ⟨S448x9472, .i32⟩
  | 112 => ⟨S28x9472, .bf16⟩
  | 113 => ⟨S28x16x9472, .bf16⟩
  | 114 => ⟨S448x9472, .bf16⟩
  | 115 => ⟨S448x1x9472, .bf16⟩
  | 116 => ⟨S1x2x1, .i32⟩
  | 117 => ⟨S448x2x1x9472, .i32⟩
  | 118 => ⟨S448x2x9472, .i32⟩
  | 119 => ⟨S_, .i32⟩
  | 120 => ⟨S448x2x9472, .i32⟩
  | 121 => ⟨S448x2x9472, .i32⟩
  | 122 => ⟨S_, .i32⟩
  | 123 => ⟨S448x2x9472, .i32⟩
  | 124 => ⟨S448x2x9472, .i32⟩
  | 125 => ⟨S448x2x9472, .bf16⟩
  | 126 => ⟨S_, .bf16⟩
  | 127 => ⟨S448x2x9472, .bf16⟩
  | _ => ⟨S256x1x3584, .bf16⟩

abbrev hbmTy0_2 (i : Nat) : BufTy := match i % 128 with
  | 0 => ⟨S448x2x9472, .bf16⟩
  | 1 => ⟨S448x2x9472, .bf16⟩
  | 2 => ⟨S448x2x9472, .bf16⟩
  | 3 => ⟨S448x1x9472, .i32⟩
  | 4 => ⟨S_, .i32⟩
  | 5 => ⟨S1x2x1, .i32⟩
  | 6 => ⟨S1x2x1, .i32⟩
  | 7 => ⟨S448x2x9472, .i32⟩
  | 8 => ⟨S448x2x9472, .i32⟩
  | 9 => ⟨S448x2x9472, .i32⟩
  | 10 => ⟨S_, .i32⟩
  | 11 => ⟨S448x2x9472, .i32⟩
  | 12 => ⟨S448x2x9472, .i32⟩
  | 13 => ⟨S448x2x1x9472, .i32⟩
  | 14 => ⟨S448x2x9472, .i32⟩
  | 15 => ⟨S_, .i32⟩
  | 16 => ⟨S448x2x9472, .i32⟩
  | 17 => ⟨S448x2x9472, .i32⟩
  | 18 => ⟨S_, .i32⟩
  | 19 => ⟨S448x2x9472, .i32⟩
  | 20 => ⟨S448x2x9472, .i32⟩
  | 21 => ⟨S448x2x9472, .bf16⟩
  | 22 => ⟨S_, .bf16⟩
  | 23 => ⟨S448x2x9472, .bf16⟩
  | 24 => ⟨S448x2x9472, .bf16⟩
  | 25 => ⟨S448x2x9472, .bf16⟩
  | 26 => ⟨S448x2x9472, .bf16⟩
  | 27 => ⟨S448x1x9472, .i32⟩
  | 28 => ⟨S_, .i32⟩
  | 29 => ⟨S1x2x1, .i32⟩
  | 30 => ⟨S1x2x1, .i32⟩
  | 31 => ⟨S448x2x9472, .i32⟩
  | 32 => ⟨S448x2x9472, .i32⟩
  | 33 => ⟨S448x2x9472, .i32⟩
  | 34 => ⟨S_, .i32⟩
  | 35 => ⟨S448x2x9472, .i32⟩
  | 36 => ⟨S448x2x9472, .i32⟩
  | 37 => ⟨S448x1x9472, .i32⟩
  | 38 => ⟨S448x9472, .i32⟩
  | 39 => ⟨S_, .i32⟩
  | 40 => ⟨S448x9472, .i32⟩
  | 41 => ⟨S448x9472, .i1⟩
  | 42 => ⟨S448x1x9472, .bf16⟩
  | 43 => ⟨S448x9472, .bf16⟩
  | 44 => ⟨S448x1x9472, .i32⟩
  | 45 => ⟨S448x9472, .i32⟩
  | 46 => ⟨S_, .i32⟩
  | 47 => ⟨S448x9472, .i32⟩
  | 48 => ⟨S448x9472, .i1⟩
  | 49 => ⟨S448x1x9472, .bf16⟩
  | 50 => ⟨S448x9472, .bf16⟩
  | 51 => ⟨S_, .bf16⟩
  | 52 => ⟨S448x9472, .bf16⟩
  | 53 => ⟨S448x9472, .bf16⟩
  | 54 => ⟨S448x9472, .bf16⟩
  | 55 => ⟨S256x1x448x1x1, .bf16⟩
  | 56 => ⟨S256x1x448, .bf16⟩
  | 57 => ⟨S256x1x9472, .f32⟩
  | 58 => ⟨S448x1x9472, .i32⟩
  | 59 => ⟨S448x9472, .i32⟩
  | 60 => ⟨S_, .i32⟩
  | 61 => ⟨S448x9472, .i32⟩
  | 62 => ⟨S448x9472, .i1⟩
  | 63 => ⟨S448x1x9472, .bf16⟩
  | 64 => ⟨S448x9472, .bf16⟩
  | 65 => ⟨S448x1x9472, .i32⟩
  | 66 => ⟨S448x9472, .i32⟩
  | 67 => ⟨S_, .i32⟩
  | 68 => ⟨S448x9472, .i32⟩
  | 69 => ⟨S448x9472, .i1⟩
  | 70 => ⟨S448x1x9472, .bf16⟩
  | 71 => ⟨S448x9472, .bf16⟩
  | 72 => ⟨S_, .bf16⟩
  | 73 => ⟨S448x9472, .bf16⟩
  | 74 => ⟨S448x9472, .bf16⟩
  | 75 => ⟨S448x9472, .bf16⟩
  | 76 => ⟨S256x1x448x1x1, .bf16⟩
  | 77 => ⟨S256x1x448, .bf16⟩
  | 78 => ⟨S256x1x9472, .f32⟩
  | 79 => ⟨S256x1x9472, .f32⟩
  | 80 => ⟨S448x1x9472, .i32⟩
  | 81 => ⟨S448x9472, .i32⟩
  | 82 => ⟨S_, .i32⟩
  | 83 => ⟨S448x9472, .i32⟩
  | 84 => ⟨S448x9472, .i1⟩
  | 85 => ⟨S448x1x9472, .bf16⟩
  | 86 => ⟨S448x9472, .bf16⟩
  | 87 => ⟨S448x1x9472, .i32⟩
  | 88 => ⟨S448x9472, .i32⟩
  | 89 => ⟨S_, .i32⟩
  | 90 => ⟨S448x9472, .i32⟩
  | 91 => ⟨S448x9472, .i1⟩
  | 92 => ⟨S448x1x9472, .bf16⟩
  | 93 => ⟨S448x9472, .bf16⟩
  | 94 => ⟨S_, .bf16⟩
  | 95 => ⟨S448x9472, .bf16⟩
  | 96 => ⟨S448x9472, .bf16⟩
  | 97 => ⟨S448x9472, .bf16⟩
  | 98 => ⟨S256x1x448x1x1, .bf16⟩
  | 99 => ⟨S256x1x448, .bf16⟩
  | 100 => ⟨S256x1x9472, .f32⟩
  | 101 => ⟨S256x1x9472, .f32⟩
  | 102 => ⟨S448x1x9472, .i32⟩
  | 103 => ⟨S448x9472, .i32⟩
  | 104 => ⟨S_, .i32⟩
  | 105 => ⟨S448x9472, .i32⟩
  | 106 => ⟨S448x9472, .i1⟩
  | 107 => ⟨S448x1x9472, .bf16⟩
  | 108 => ⟨S448x9472, .bf16⟩
  | 109 => ⟨S448x1x9472, .i32⟩
  | 110 => ⟨S448x9472, .i32⟩
  | 111 => ⟨S_, .i32⟩
  | 112 => ⟨S448x9472, .i32⟩
  | 113 => ⟨S448x9472, .i1⟩
  | 114 => ⟨S448x1x9472, .bf16⟩
  | 115 => ⟨S448x9472, .bf16⟩
  | 116 => ⟨S_, .bf16⟩
  | 117 => ⟨S448x9472, .bf16⟩
  | 118 => ⟨S448x9472, .bf16⟩
  | 119 => ⟨S448x9472, .bf16⟩
  | 120 => ⟨S256x1x448x1x1, .bf16⟩
  | 121 => ⟨S256x1x448, .bf16⟩
  | 122 => ⟨S256x1x9472, .f32⟩
  | 123 => ⟨S256x1x9472, .f32⟩
  | 124 => ⟨S448x1x9472, .i32⟩
  | 125 => ⟨S448x9472, .i32⟩
  | 126 => ⟨S_, .i32⟩
  | 127 => ⟨S448x9472, .i32⟩
  | _ => ⟨S256x1x3584, .bf16⟩

abbrev hbmTy0_3 (i : Nat) : BufTy := match i % 128 with
  | 0 => ⟨S448x9472, .i1⟩
  | 1 => ⟨S448x1x9472, .bf16⟩
  | 2 => ⟨S448x9472, .bf16⟩
  | 3 => ⟨S448x1x9472, .i32⟩
  | 4 => ⟨S448x9472, .i32⟩
  | 5 => ⟨S_, .i32⟩
  | 6 => ⟨S448x9472, .i32⟩
  | 7 => ⟨S448x9472, .i1⟩
  | 8 => ⟨S448x1x9472, .bf16⟩
  | 9 => ⟨S448x9472, .bf16⟩
  | 10 => ⟨S_, .bf16⟩
  | 11 => ⟨S448x9472, .bf16⟩
  | 12 => ⟨S448x9472, .bf16⟩
  | 13 => ⟨S448x9472, .bf16⟩
  | 14 => ⟨S256x1x448x1x1, .bf16⟩
  | 15 => ⟨S256x1x448, .bf16⟩
  | 16 => ⟨S256x1x9472, .f32⟩
  | 17 => ⟨S256x1x9472, .f32⟩
  | 18 => ⟨S448x1x9472, .i32⟩
  | 19 => ⟨S448x9472, .i32⟩
  | 20 => ⟨S_, .i32⟩
  | 21 => ⟨S448x9472, .i32⟩
  | 22 => ⟨S448x9472, .i1⟩
  | 23 => ⟨S448x1x9472, .bf16⟩
  | 24 => ⟨S448x9472, .bf16⟩
  | 25 => ⟨S448x1x9472, .i32⟩
  | 26 => ⟨S448x9472, .i32⟩
  | 27 => ⟨S_, .i32⟩
  | 28 => ⟨S448x9472, .i32⟩
  | 29 => ⟨S448x9472, .i1⟩
  | 30 => ⟨S448x1x9472, .bf16⟩
  | 31 => ⟨S448x9472, .bf16⟩
  | 32 => ⟨S_, .bf16⟩
  | 33 => ⟨S448x9472, .bf16⟩
  | 34 => ⟨S448x9472, .bf16⟩
  | 35 => ⟨S448x9472, .bf16⟩
  | 36 => ⟨S256x1x448x1x1, .bf16⟩
  | 37 => ⟨S256x1x448, .bf16⟩
  | 38 => ⟨S256x1x9472, .f32⟩
  | 39 => ⟨S256x1x9472, .f32⟩
  | 40 => ⟨S448x1x9472, .i32⟩
  | 41 => ⟨S448x9472, .i32⟩
  | 42 => ⟨S_, .i32⟩
  | 43 => ⟨S448x9472, .i32⟩
  | 44 => ⟨S448x9472, .i1⟩
  | 45 => ⟨S448x1x9472, .bf16⟩
  | 46 => ⟨S448x9472, .bf16⟩
  | 47 => ⟨S448x1x9472, .i32⟩
  | 48 => ⟨S448x9472, .i32⟩
  | 49 => ⟨S_, .i32⟩
  | 50 => ⟨S448x9472, .i32⟩
  | 51 => ⟨S448x9472, .i1⟩
  | 52 => ⟨S448x1x9472, .bf16⟩
  | 53 => ⟨S448x9472, .bf16⟩
  | 54 => ⟨S_, .bf16⟩
  | 55 => ⟨S448x9472, .bf16⟩
  | 56 => ⟨S448x9472, .bf16⟩
  | 57 => ⟨S448x9472, .bf16⟩
  | 58 => ⟨S256x1x448x1x1, .bf16⟩
  | 59 => ⟨S256x1x448, .bf16⟩
  | 60 => ⟨S256x1x9472, .f32⟩
  | 61 => ⟨S256x1x9472, .f32⟩
  | 62 => ⟨S448x1x9472, .i32⟩
  | 63 => ⟨S448x9472, .i32⟩
  | 64 => ⟨S_, .i32⟩
  | 65 => ⟨S448x9472, .i32⟩
  | 66 => ⟨S448x9472, .i1⟩
  | 67 => ⟨S448x1x9472, .bf16⟩
  | 68 => ⟨S448x9472, .bf16⟩
  | 69 => ⟨S448x1x9472, .i32⟩
  | 70 => ⟨S448x9472, .i32⟩
  | 71 => ⟨S_, .i32⟩
  | 72 => ⟨S448x9472, .i32⟩
  | 73 => ⟨S448x9472, .i1⟩
  | 74 => ⟨S448x1x9472, .bf16⟩
  | 75 => ⟨S448x9472, .bf16⟩
  | 76 => ⟨S_, .bf16⟩
  | 77 => ⟨S448x9472, .bf16⟩
  | 78 => ⟨S448x9472, .bf16⟩
  | 79 => ⟨S448x9472, .bf16⟩
  | 80 => ⟨S256x1x448x1x1, .bf16⟩
  | 81 => ⟨S256x1x448, .bf16⟩
  | 82 => ⟨S256x1x9472, .f32⟩
  | 83 => ⟨S256x1x9472, .f32⟩
  | 84 => ⟨S256x1x9472x1, .f32⟩
  | 85 => ⟨S256x1x9472x1, .f32⟩
  | 86 => ⟨S256x1x9472x2, .f32⟩
  | 87 => ⟨S256x18944, .f32⟩
  | 88 => ⟨S256x18944, .bf16⟩
  | _ => ⟨S256x1x3584, .bf16⟩

abbrev hbmTy (i : Nat) : BufTy := match i / 128 with
  | 0 => hbmTy0_0 i
  | 1 => hbmTy0_1 i
  | 2 => hbmTy0_2 i
  | 3 => hbmTy0_3 i
  | _ => ⟨S256x1x3584, .bf16⟩

abbrev bufTy : (tb : Table) → Fin (tcTables nBuf tb) → BufTy
  | .hbm, ⟨i, _⟩ => hbmTy i
  | _, _ => ⟨S256x1x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_12 : Ref sig .tc := ⟨.hbm, 78, rfl⟩
abbrev main_call0_v0 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c_13 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c_14 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_15 : Ref sig .tc := ⟨.hbm, 99, rfl⟩
abbrev main_call2_v0 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_c_16 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_c_17 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_18 : Ref sig .tc := ⟨.hbm, 121, rfl⟩
abbrev main_call4_v0 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_c_19 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_c_20 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_21 : Ref sig .tc := ⟨.hbm, 143, rfl⟩
abbrev main_call6_v0 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_c_22 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_c_23 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_cst_24 : Ref sig .tc := ⟨.hbm, 165, rfl⟩
abbrev main_call8_v0 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_c_25 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_c_26 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_cst_27 : Ref sig .tc := ⟨.hbm, 187, rfl⟩
abbrev main_call10_v0 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_c_28 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_c_29 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_cst_30 : Ref sig .tc := ⟨.hbm, 209, rfl⟩
abbrev main_call12_v0 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_c_31 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_c_32 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_cst_33 : Ref sig .tc := ⟨.hbm, 231, rfl⟩
abbrev main_call14_v0 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_c_34 : Ref sig .tc := ⟨.hbm, 247, rfl⟩
abbrev main_v199 : Ref sig .tc := ⟨.hbm, 248, rfl⟩
abbrev main_v200 : Ref sig .tc := ⟨.hbm, 249, rfl⟩
abbrev main_c_35 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_cst_36 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_c_37 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_c_38 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_c_39 : Ref sig .tc := ⟨.hbm, 271, rfl⟩
abbrev main_v218 : Ref sig .tc := ⟨.hbm, 272, rfl⟩
abbrev main_v219 : Ref sig .tc := ⟨.hbm, 273, rfl⟩
abbrev main_c_40 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_cst_41 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_c_42 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_c_43 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_c_44 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_c_45 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_cst_46 : Ref sig .tc := ⟨.hbm, 307, rfl⟩
abbrev main_call16_v0 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_c_47 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_c_48 : Ref sig .tc := ⟨.hbm, 323, rfl⟩
abbrev main_v260 : Ref sig .tc := ⟨.hbm, 324, rfl⟩
abbrev main_v261 : Ref sig .tc := ⟨.hbm, 325, rfl⟩
abbrev main_v262 : Ref sig .tc := ⟨.hbm, 326, rfl⟩
abbrev main_v263 : Ref sig .tc := ⟨.hbm, 327, rfl⟩
abbrev main_cst_49 : Ref sig .tc := ⟨.hbm, 328, rfl⟩
abbrev main_call18_v0 : Ref sig .tc := ⟨.hbm, 329, rfl⟩
abbrev main_v264 : Ref sig .tc := ⟨.hbm, 330, rfl⟩
abbrev main_v265 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_v270 : Ref sig .tc := ⟨.hbm, 336, rfl⟩
abbrev main_v271 : Ref sig .tc := ⟨.hbm, 337, rfl⟩
abbrev main_c_50 : Ref sig .tc := ⟨.hbm, 338, rfl⟩
abbrev main_v272 : Ref sig .tc := ⟨.hbm, 339, rfl⟩
abbrev main_v273 : Ref sig .tc := ⟨.hbm, 340, rfl⟩
abbrev main_v274 : Ref sig .tc := ⟨.hbm, 341, rfl⟩
abbrev main_v275 : Ref sig .tc := ⟨.hbm, 342, rfl⟩
abbrev main_v276 : Ref sig .tc := ⟨.hbm, 343, rfl⟩
abbrev main_v277 : Ref sig .tc := ⟨.hbm, 344, rfl⟩
abbrev main_c_51 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩
abbrev main_v281 : Ref sig .tc := ⟨.hbm, 349, rfl⟩
abbrev main_cst_52 : Ref sig .tc := ⟨.hbm, 350, rfl⟩
abbrev main_call20_v0 : Ref sig .tc := ⟨.hbm, 351, rfl⟩
abbrev main_v282 : Ref sig .tc := ⟨.hbm, 352, rfl⟩
abbrev main_v283 : Ref sig .tc := ⟨.hbm, 353, rfl⟩
abbrev main_v284 : Ref sig .tc := ⟨.hbm, 354, rfl⟩
abbrev main_v285 : Ref sig .tc := ⟨.hbm, 355, rfl⟩
abbrev main_v286 : Ref sig .tc := ⟨.hbm, 356, rfl⟩
abbrev main_v287 : Ref sig .tc := ⟨.hbm, 357, rfl⟩
abbrev main_v288 : Ref sig .tc := ⟨.hbm, 358, rfl⟩
abbrev main_v289 : Ref sig .tc := ⟨.hbm, 359, rfl⟩
abbrev main_c_53 : Ref sig .tc := ⟨.hbm, 360, rfl⟩
abbrev main_v290 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_v295 : Ref sig .tc := ⟨.hbm, 366, rfl⟩
abbrev main_c_54 : Ref sig .tc := ⟨.hbm, 367, rfl⟩
abbrev main_v296 : Ref sig .tc := ⟨.hbm, 368, rfl⟩
abbrev main_v297 : Ref sig .tc := ⟨.hbm, 369, rfl⟩
abbrev main_v298 : Ref sig .tc := ⟨.hbm, 370, rfl⟩
abbrev main_v299 : Ref sig .tc := ⟨.hbm, 371, rfl⟩
abbrev main_cst_55 : Ref sig .tc := ⟨.hbm, 372, rfl⟩
abbrev main_call22_v0 : Ref sig .tc := ⟨.hbm, 373, rfl⟩
abbrev main_v300 : Ref sig .tc := ⟨.hbm, 374, rfl⟩
abbrev main_v301 : Ref sig .tc := ⟨.hbm, 375, rfl⟩
abbrev main_v302 : Ref sig .tc := ⟨.hbm, 376, rfl⟩
abbrev main_v303 : Ref sig .tc := ⟨.hbm, 377, rfl⟩
abbrev main_v304 : Ref sig .tc := ⟨.hbm, 378, rfl⟩
abbrev main_v305 : Ref sig .tc := ⟨.hbm, 379, rfl⟩
abbrev main_v306 : Ref sig .tc := ⟨.hbm, 380, rfl⟩
abbrev main_v307 : Ref sig .tc := ⟨.hbm, 381, rfl⟩
abbrev main_c_56 : Ref sig .tc := ⟨.hbm, 382, rfl⟩
abbrev main_v308 : Ref sig .tc := ⟨.hbm, 383, rfl⟩
abbrev main_v309 : Ref sig .tc := ⟨.hbm, 384, rfl⟩
abbrev main_v310 : Ref sig .tc := ⟨.hbm, 385, rfl⟩
abbrev main_v311 : Ref sig .tc := ⟨.hbm, 386, rfl⟩
abbrev main_v312 : Ref sig .tc := ⟨.hbm, 387, rfl⟩
abbrev main_v313 : Ref sig .tc := ⟨.hbm, 388, rfl⟩
abbrev main_c_57 : Ref sig .tc := ⟨.hbm, 389, rfl⟩
abbrev main_v314 : Ref sig .tc := ⟨.hbm, 390, rfl⟩
abbrev main_v315 : Ref sig .tc := ⟨.hbm, 391, rfl⟩
abbrev main_v316 : Ref sig .tc := ⟨.hbm, 392, rfl⟩
abbrev main_v317 : Ref sig .tc := ⟨.hbm, 393, rfl⟩
abbrev main_cst_58 : Ref sig .tc := ⟨.hbm, 394, rfl⟩
abbrev main_call24_v0 : Ref sig .tc := ⟨.hbm, 395, rfl⟩
abbrev main_v318 : Ref sig .tc := ⟨.hbm, 396, rfl⟩
abbrev main_v319 : Ref sig .tc := ⟨.hbm, 397, rfl⟩
abbrev main_v320 : Ref sig .tc := ⟨.hbm, 398, rfl⟩
abbrev main_v321 : Ref sig .tc := ⟨.hbm, 399, rfl⟩
abbrev main_v322 : Ref sig .tc := ⟨.hbm, 400, rfl⟩
abbrev main_v323 : Ref sig .tc := ⟨.hbm, 401, rfl⟩
abbrev main_v324 : Ref sig .tc := ⟨.hbm, 402, rfl⟩
abbrev main_v325 : Ref sig .tc := ⟨.hbm, 403, rfl⟩
abbrev main_c_59 : Ref sig .tc := ⟨.hbm, 404, rfl⟩
abbrev main_v326 : Ref sig .tc := ⟨.hbm, 405, rfl⟩
abbrev main_v327 : Ref sig .tc := ⟨.hbm, 406, rfl⟩
abbrev main_v328 : Ref sig .tc := ⟨.hbm, 407, rfl⟩
abbrev main_v329 : Ref sig .tc := ⟨.hbm, 408, rfl⟩
abbrev main_v330 : Ref sig .tc := ⟨.hbm, 409, rfl⟩
abbrev main_v331 : Ref sig .tc := ⟨.hbm, 410, rfl⟩
abbrev main_c_60 : Ref sig .tc := ⟨.hbm, 411, rfl⟩
abbrev main_v332 : Ref sig .tc := ⟨.hbm, 412, rfl⟩
abbrev main_v333 : Ref sig .tc := ⟨.hbm, 413, rfl⟩
abbrev main_v334 : Ref sig .tc := ⟨.hbm, 414, rfl⟩
abbrev main_v335 : Ref sig .tc := ⟨.hbm, 415, rfl⟩
abbrev main_cst_61 : Ref sig .tc := ⟨.hbm, 416, rfl⟩
abbrev main_call26_v0 : Ref sig .tc := ⟨.hbm, 417, rfl⟩
abbrev main_v336 : Ref sig .tc := ⟨.hbm, 418, rfl⟩
abbrev main_v337 : Ref sig .tc := ⟨.hbm, 419, rfl⟩
abbrev main_v338 : Ref sig .tc := ⟨.hbm, 420, rfl⟩
abbrev main_v339 : Ref sig .tc := ⟨.hbm, 421, rfl⟩
abbrev main_v340 : Ref sig .tc := ⟨.hbm, 422, rfl⟩
abbrev main_v341 : Ref sig .tc := ⟨.hbm, 423, rfl⟩
abbrev main_v342 : Ref sig .tc := ⟨.hbm, 424, rfl⟩
abbrev main_v343 : Ref sig .tc := ⟨.hbm, 425, rfl⟩
abbrev main_c_62 : Ref sig .tc := ⟨.hbm, 426, rfl⟩
abbrev main_v344 : Ref sig .tc := ⟨.hbm, 427, rfl⟩
abbrev main_v345 : Ref sig .tc := ⟨.hbm, 428, rfl⟩
abbrev main_v346 : Ref sig .tc := ⟨.hbm, 429, rfl⟩
abbrev main_v347 : Ref sig .tc := ⟨.hbm, 430, rfl⟩
abbrev main_v348 : Ref sig .tc := ⟨.hbm, 431, rfl⟩
abbrev main_v349 : Ref sig .tc := ⟨.hbm, 432, rfl⟩
abbrev main_c_63 : Ref sig .tc := ⟨.hbm, 433, rfl⟩
abbrev main_v350 : Ref sig .tc := ⟨.hbm, 434, rfl⟩
abbrev main_v351 : Ref sig .tc := ⟨.hbm, 435, rfl⟩
abbrev main_v352 : Ref sig .tc := ⟨.hbm, 436, rfl⟩
abbrev main_v353 : Ref sig .tc := ⟨.hbm, 437, rfl⟩
abbrev main_cst_64 : Ref sig .tc := ⟨.hbm, 438, rfl⟩
abbrev main_call28_v0 : Ref sig .tc := ⟨.hbm, 439, rfl⟩
abbrev main_v354 : Ref sig .tc := ⟨.hbm, 440, rfl⟩
abbrev main_v355 : Ref sig .tc := ⟨.hbm, 441, rfl⟩
abbrev main_v356 : Ref sig .tc := ⟨.hbm, 442, rfl⟩
abbrev main_v357 : Ref sig .tc := ⟨.hbm, 443, rfl⟩
abbrev main_v358 : Ref sig .tc := ⟨.hbm, 444, rfl⟩
abbrev main_v359 : Ref sig .tc := ⟨.hbm, 445, rfl⟩
abbrev main_v360 : Ref sig .tc := ⟨.hbm, 446, rfl⟩
abbrev main_v361 : Ref sig .tc := ⟨.hbm, 447, rfl⟩
abbrev main_c_65 : Ref sig .tc := ⟨.hbm, 448, rfl⟩
abbrev main_v362 : Ref sig .tc := ⟨.hbm, 449, rfl⟩
abbrev main_v363 : Ref sig .tc := ⟨.hbm, 450, rfl⟩
abbrev main_v364 : Ref sig .tc := ⟨.hbm, 451, rfl⟩
abbrev main_v365 : Ref sig .tc := ⟨.hbm, 452, rfl⟩
abbrev main_v366 : Ref sig .tc := ⟨.hbm, 453, rfl⟩
abbrev main_v367 : Ref sig .tc := ⟨.hbm, 454, rfl⟩
abbrev main_c_66 : Ref sig .tc := ⟨.hbm, 455, rfl⟩
abbrev main_v368 : Ref sig .tc := ⟨.hbm, 456, rfl⟩
abbrev main_v369 : Ref sig .tc := ⟨.hbm, 457, rfl⟩
abbrev main_v370 : Ref sig .tc := ⟨.hbm, 458, rfl⟩
abbrev main_v371 : Ref sig .tc := ⟨.hbm, 459, rfl⟩
abbrev main_cst_67 : Ref sig .tc := ⟨.hbm, 460, rfl⟩
abbrev main_call30_v0 : Ref sig .tc := ⟨.hbm, 461, rfl⟩
abbrev main_v372 : Ref sig .tc := ⟨.hbm, 462, rfl⟩
abbrev main_v373 : Ref sig .tc := ⟨.hbm, 463, rfl⟩
abbrev main_v374 : Ref sig .tc := ⟨.hbm, 464, rfl⟩
abbrev main_v375 : Ref sig .tc := ⟨.hbm, 465, rfl⟩
abbrev main_v376 : Ref sig .tc := ⟨.hbm, 466, rfl⟩
abbrev main_v377 : Ref sig .tc := ⟨.hbm, 467, rfl⟩
abbrev main_v378 : Ref sig .tc := ⟨.hbm, 468, rfl⟩
abbrev main_v379 : Ref sig .tc := ⟨.hbm, 469, rfl⟩
abbrev main_v380 : Ref sig .tc := ⟨.hbm, 470, rfl⟩
abbrev main_v381 : Ref sig .tc := ⟨.hbm, 471, rfl⟩
abbrev main_v382 : Ref sig .tc := ⟨.hbm, 472, rfl⟩

abbrev nD : Nat := 1
abbrev τ : Topo := Topo.v7x

variable {F : FTy → Type} [FloatOps F]
-- ==== Proof.Claims.lean ====
/-
  What the certificate claims beside the value equation: that the three programs run and leave their arguments and the
  semaphores alone (`quiescent_*`), and that the idealization of the kernel preserves it (`preserves`).
-/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import Idealize.ShloMosaic.Lib.Bf16Pair
public import Idealize.ShloMosaic.Lib.Bf16PairInverse
public import Idealize.ShloMosaic.Lib.Quiescent

@[expose] public section

noncomputable section

open Idealize.ShloMosaic Idealize.SL.Sem

namespace Cert.Proof.Claims

/-- The kernel runs, and ends with its arguments unchanged and every semaphore at zero. -/
theorem frame_p : Cert.quiescent_Kernel := fun m ρ _ => Cert.Kernel.Gen.frame m ρ

/-- The idealized kernel runs, and ends with its arguments unchanged and every semaphore at zero. -/
theorem frame_pi : Cert.quiescent_KernelIdeal := fun m ρ _ => Cert.KernelIdeal.Gen.frame m ρ

/-- The reference runs, and ends with its arguments unchanged; it has no semaphore. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The sites of the idealization, as their six distinct statements: the scale scratch re-typed as a bf16 buffer; the
    scales' block read as words; the pack of two equal halves; the words stored into the scratch and those read back
    from it; a repeated word read as sixteen rows. -/
theorem preserves : Cert.preserves_Kernel_KernelIdeal :=
  open Cert.KernelIdeal IdealRules.bf16_pair in
  ⟨bufferStatement S4x14x2x128 S4x14x1x128, statement S28x256 S14x256, packStatement S14x128,
    statement S1x14x2x128 S1x14x1x128, statement S1x1x2x128 S1x1x1x128, statement S16x128 S8x128⟩

end Cert.Proof.Claims

end
-- ==== Proof.Tile.lean ====
/-
  What the kernel body computes, as functions: one K-tile's product from the blocks it reads, the sum of the fourteen,
  and the sixteen-row pieces it stores. Operation by operation these are the kernel's own; each is written once, where
  the kernel's unrolled text writes it for every tile.
-/
module

public import proofs.«01_k».proof.KernelIdeal
public import proofs.«01_k».proof.Proof.Gen.KernelIdeal

@[expose] public section

noncomputable section

namespace Cert.Proof.Tile

open Idealize.ShloMosaic Idealize.SL.Sem Cert.KernelIdeal Cert.KernelIdeal.Gen

variable {F : FTy → Type} [FloatOps F]

/-! ## Lanes -/

/-- `R` rows of 128 lanes. -/
abbrev Rows (R : ℕ) : Shape := ⟨2, ![R, 128]⟩

/-- The lane number. -/
def lane (R : ℕ) (h : (Rows R).Iotas .tc 32 [1]) : IVec (Rows R) 32 := iota .tc (Rows R) 32 [1] h

/-- The lanes below 64. -/
def lowLanes (R : ℕ) (h : (Rows R).Iotas .tc 32 [1]) : IVec (Rows R) 1 := cmpi .slt (lane R h) (broadcast (Rows R) 64#32)

/-- Lane `2 l` for the lanes below 64, lane `2 l - 127` above. -/
def evenLanes (R : ℕ) (h : (Rows R).Iotas .tc 32 [1]) : IVec (Rows R) 32 :=
  select (lowLanes R h) (muli (broadcast (Rows R) 2#32) (lane R h))
    (subi (muli (broadcast (Rows R) 2#32) (lane R h)) (broadcast (Rows R) 127#32))

/-- Lane `2 l + 1` for the lanes below 64, lane `2 l - 128` above. -/
def oddLanes (R : ℕ) (h : (Rows R).Iotas .tc 32 [1]) : IVec (Rows R) 32 :=
  select (lowLanes R h) (addi (muli (broadcast (Rows R) 2#32) (lane R h)) (broadcast (Rows R) 1#32))
    (subi (muli (broadcast (Rows R) 2#32) (lane R h)) (broadcast (Rows R) 128#32))

/-- The lanes named by `i`, a negative one counted from the end. -/
def gatherLanes {R : ℕ} (h : (Rows R).ShapeCasts ⟨3, ![R, 128, 1]⟩) (h' : (⟨3, ![R, 128, 1]⟩ : Shape).ShapeCasts (Rows R))
    {e : Type} (x : (Rows R).Idx → e) (i : IVec (Rows R) 32) : (Rows R).Idx → e :=
  dynamicGather 1 x (shapeCast (Rows R) (shapeCast ⟨3, ![R, 128, 1]⟩
    (select (cmpi .slt i (broadcast (Rows R) 0#32)) (addi i (broadcast (Rows R) 128#32)) i) h) h')

/-- Of 256 columns, given as two halves, the even ones. -/
def evenColumns {R : ℕ} (hi : (Rows R).Iotas .tc 32 [1]) (h : (Rows R).ShapeCasts ⟨3, ![R, 128, 1]⟩)
    (h' : (⟨3, ![R, 128, 1]⟩ : Shape).ShapeCasts (Rows R)) {e : Type} (a b : (Rows R).Idx → e) : (Rows R).Idx → e :=
  select (lowLanes R hi) (gatherLanes h h' a (evenLanes R hi)) (gatherLanes h h' b (oddLanes R hi))

/-- Of 256 columns, given as two halves, the odd ones. -/
def oddColumns {R : ℕ} (hi : (Rows R).Iotas .tc 32 [1]) (h : (Rows R).ShapeCasts ⟨3, ![R, 128, 1]⟩)
    (h' : (⟨3, ![R, 128, 1]⟩ : Shape).ShapeCasts (Rows R)) (hr : (Rows R).Rotates 1 none) {e : Type}
    (a b : (Rows R).Idx → e) : (Rows R).Idx → e :=
  dynamicRotate 1 64#32 none
    (select (lowLanes R hi) (gatherLanes h h' b (oddLanes R hi)) (gatherLanes h h' a (evenLanes R hi))) hr

/-! ## The weights' bytes -/

/-- The bytes at which the word `k` is not zero. -/
def byteMask (k : BitVec 32) : IVec S32x128 1 :=
  cmpi .ne (bitcast S32x128 8 (broadcast S8x128 k) bitcasts_S8x128_w32_S32x128_w8) (broadcast S32x128 0#8)

/-- The rows `b`, `b + 4`, … of the block's words, each nibble with its top bit turned. -/
def word (w : IVec S128x128 8) (off : Fin 3 → ℕ) (h : S8x4x128.Slices off S8x1x128) : IVec S8x128 32 :=
  xori (shapeCast S8x128 (extractStridedSlice S8x1x128 off
      (shapeCast S8x4x128 (bitcast S32x128 32 w bitcasts_S128x128_w8_S32x128_w32) shapeCasts_S32x128_S8x4x128) h)
      shapeCasts_S8x1x128_S8x128)
    (broadcast S8x128 2290649224#32)

/-- Under the mask `a`'s bytes, elsewhere `b`'s moved up by `s` bits. -/
def mixLow (m : IVec S32x128 1) (s : BitVec 32) (a b : IVec S8x128 32) : IVec S8x128 32 :=
  bitcast S8x128 32 (select m (bitcast S32x128 8 a bitcasts_S8x128_w32_S32x128_w8)
    (bitcast S32x128 8 (shli b (broadcast S8x128 s)) bitcasts_S8x128_w32_S32x128_w8)) bitcasts_S32x128_w8_S8x128_w32

/-- Under the mask `a`'s bytes moved down by `s` bits, elsewhere `b`'s. -/
def mixHigh (m : IVec S32x128 1) (s : BitVec 32) (a b : IVec S8x128 32) : IVec S8x128 32 :=
  bitcast S8x128 32 (select m (bitcast S32x128 8 (shrui a (broadcast S8x128 s)) bitcasts_S8x128_w32_S32x128_w8)
    (bitcast S32x128 8 b bitcasts_S8x128_w32_S32x128_w8)) bitcasts_S32x128_w8_S8x128_w32

/-- Byte 0 of the four words of a block, as one word: the four words are transposed bytewise. -/
def byte0 (w : IVec S128x128 8) : IVec S8x128 32 :=
  mixLow (byteMask 65535#32) 16#32
    (mixLow (byteMask 16711935#32) 8#32 (word w ![0, 0, 0] slices_S8x4x128_o0_0_0_S8x1x128) (word w ![0, 1, 0] slices_S8x4x128_o0_1_0_S8x1x128))
    (mixLow (byteMask 16711935#32) 8#32 (word w ![0, 2, 0] slices_S8x4x128_o0_2_0_S8x1x128) (word w ![0, 3, 0] slices_S8x4x128_o0_3_0_S8x1x128))

/-- Byte 2 of the four words of a block, as one word. -/
def byte2 (w : IVec S128x128 8) : IVec S8x128 32 :=
  mixHigh (byteMask 65535#32) 16#32
    (mixLow (byteMask 16711935#32) 8#32 (word w ![0, 0, 0] slices_S8x4x128_o0_0_0_S8x1x128) (word w ![0, 1, 0] slices_S8x4x128_o0_1_0_S8x1x128))
    (mixLow (byteMask 16711935#32) 8#32 (word w ![0, 2, 0] slices_S8x4x128_o0_2_0_S8x1x128) (word w ![0, 3, 0] slices_S8x4x128_o0_3_0_S8x1x128))

/-- Byte 1 of the four words of a block, as one word. -/
def byte1 (w : IVec S128x128 8) : IVec S8x128 32 :=
  mixLow (byteMask 65535#32) 16#32
    (mixHigh (byteMask 16711935#32) 8#32 (word w ![0, 0, 0] slices_S8x4x128_o0_0_0_S8x1x128) (word w ![0, 1, 0] slices_S8x4x128_o0_1_0_S8x1x128))
    (mixHigh (byteMask 16711935#32) 8#32 (word w ![0, 2, 0] slices_S8x4x128_o0_2_0_S8x1x128) (word w ![0, 3, 0] slices_S8x4x128_o0_3_0_S8x1x128))

/-- Byte 3 of the four words of a block, as one word. -/
def byte3 (w : IVec S128x128 8) : IVec S8x128 32 :=
  mixHigh (byteMask 65535#32) 16#32
    (mixHigh (byteMask 16711935#32) 8#32 (word w ![0, 0, 0] slices_S8x4x128_o0_0_0_S8x1x128) (word w ![0, 1, 0] slices_S8x4x128_o0_1_0_S8x1x128))
    (mixHigh (byteMask 16711935#32) 8#32 (word w ![0, 2, 0] slices_S8x4x128_o0_2_0_S8x1x128) (word w ![0, 3, 0] slices_S8x4x128_o0_3_0_S8x1x128))

/-- The low nibbles, each moved to the top of its byte. -/
def lowNibbles (v : IVec S8x128 32) : IVec S32x128 8 :=
  bitcast S32x128 8 (andi (shli v (broadcast S8x128 4#32)) (broadcast S8x128 4042322160#32)) bitcasts_S8x128_w32_S32x128_w8

/-- The high nibbles, each left at the top of its byte. -/
def highNibbles (v : IVec S8x128 32) : IVec S32x128 8 :=
  bitcast S32x128 8 (andi v (broadcast S8x128 4042322160#32)) bitcasts_S8x128_w32_S32x128_w8

/-! ## The positions -/

/-- The words of a block of position bytes. -/
def idxWords (x : IVec S32x256 8) : IVec S8x256 32 := bitcast S8x256 32 x bitcasts_S32x256_w8_S8x256_w32

/-- The even columns of a block of position bytes. -/
def evenIdx (x : IVec S32x256 8) : IVec S32x128 8 :=
  bitcast S32x128 8 (evenColumns iota_S8x128_d1_w32 shapeCasts_S8x128_S8x128x1 shapeCasts_S8x128x1_S8x128
    (extractStridedSlice S8x128 ![0, 0] (idxWords x) slices_S8x256_o0_0_S8x128)
    (extractStridedSlice S8x128 ![0, 128] (idxWords x) slices_S8x256_o0_128_S8x128)) bitcasts_S8x128_w32_S32x128_w8

/-- The odd columns of a block of position bytes. -/
def oddIdx (x : IVec S32x256 8) : IVec S32x128 8 :=
  bitcast S32x128 8 (oddColumns iota_S8x128_d1_w32 shapeCasts_S8x128_S8x128x1 shapeCasts_S8x128x1_S8x128 rotates_S8x128_d1
    (extractStridedSlice S8x128 ![0, 0] (idxWords x) slices_S8x256_o0_0_S8x128)
    (extractStridedSlice S8x128 ![0, 128] (idxWords x) slices_S8x256_o0_128_S8x128)) bitcasts_S8x128_w32_S32x128_w8

/-- Where the bit `k` of a byte of positions is set. -/
def bit (i : IVec S32x128 8) (k : BitVec 8) : IVec S32x128 1 :=
  cmpi .ne (andi i (broadcast S32x128 k)) (broadcast S32x128 0#8)

/-! ## The scales -/

/-- One packed row of scales, eight times over, its two halves as alternating rows. -/
def scaleRows (raw : FVec F S1x1x2x128 .bf16) : FVec F S16x128 .bf16 :=
  let lo : FVec F S1x128 .bf16 := shapeCast S1x128 (shapeCast S1x1x128 (rowsOfParity 0 S1x1x1x128 raw
    bitcasts_S1x1x2x128_w16_S1x1x1x128_w32) shapeCasts_S1x1x1x128_S1x1x128) shapeCasts_S1x1x128_S1x128
  let hi : FVec F S1x128 .bf16 := shapeCast S1x128 (shapeCast S1x1x128 (rowsOfParity 1 S1x1x1x128 raw
    bitcasts_S1x1x2x128_w16_S1x1x1x128_w32) shapeCasts_S1x1x1x128_S1x1x128) shapeCasts_S1x1x128_S1x128
  interleaveRows S16x128
    (concatenate S8x128 0 [⟨S1x128, lo⟩, ⟨S1x128, lo⟩, ⟨S1x128, lo⟩, ⟨S1x128, lo⟩, ⟨S1x128, lo⟩, ⟨S1x128, lo⟩, ⟨S1x128, lo⟩, ⟨S1x128, lo⟩]
      concatenates_S1x128_S1x128_S1x128_S1x128_S1x128_S1x128_S1x128_S1x128_S8x128_d0)
    (concatenate S8x128 0 [⟨S1x128, hi⟩, ⟨S1x128, hi⟩, ⟨S1x128, hi⟩, ⟨S1x128, hi⟩, ⟨S1x128, hi⟩, ⟨S1x128, hi⟩, ⟨S1x128, hi⟩, ⟨S1x128, hi⟩]
      concatenates_S1x128_S1x128_S1x128_S1x128_S1x128_S1x128_S1x128_S1x128_S8x128_d0)
    bitcasts_S16x128_w16_S8x128_w32

/-- The scales of a tile's thirty-two rows: sixteen rows of each of its two groups. -/
def scale (raw0 raw1 : FVec F S1x1x2x128 .bf16) : FVec F S32x128 .bf16 :=
  concatenate S32x128 0 [⟨S16x128, scaleRows raw0⟩, ⟨S16x128, scaleRows raw1⟩] concatenates_S16x128_S16x128_S32x128_d0

/-! ## One tile -/

/-- The row of position 0 of a group of four: the first value, unless a bit of the first position is set. -/
def expand0 (b0 b1 : IVec S32x128 1) (v0 : IVec S32x128 8) : IVec S32x128 8 :=
  select (ori b0 b1) (broadcast S32x128 0#8) v0

/-- The row of position 1 or 2 of a group of four: the first value, else the second, else zero. -/
def expand1 (b0 c1 : IVec S32x128 1) (v0 v1 : IVec S32x128 8) : IVec S32x128 8 :=
  select b0 v0 (select c1 (broadcast S32x128 0#8) v1)

/-- The row of position 3 of a group of four: the second value, if both bits of the second position are set. -/
def expand3 (c0 c1 : IVec S32x128 1) (v1 : IVec S32x128 8) : IVec S32x128 8 :=
  select (andi c0 c1) v1 (broadcast S32x128 0#8)

/-- The 256 rows of one column class of a tile's weights. -/
def expand (sc : FVec F S32x128 .bf16) (i : IVec S32x128 8) (v0 v1 v2 v3 : IVec S32x128 8) : FVec F S256x128 .bf16 :=
  concatenate S256x128 0
    [⟨S32x128, mulf (sitofp .bf16 (expand0 (bit i 1#8) (bit i 2#8) v0)) sc⟩,
     ⟨S32x128, mulf (sitofp .bf16 (expand1 (bit i 1#8) (bit i 8#8) v0 v1)) sc⟩,
     ⟨S32x128, mulf (sitofp .bf16 (expand1 (bit i 2#8) (bit i 4#8) v0 v1)) sc⟩,
     ⟨S32x128, mulf (sitofp .bf16 (expand3 (bit i 4#8) (bit i 8#8) v1)) sc⟩,
     ⟨S32x128, mulf (sitofp .bf16 (expand0 (bit i 16#8) (bit i 32#8) v2)) sc⟩,
     ⟨S32x128, mulf (sitofp .bf16 (expand1 (bit i 16#8) (bit i 128#8) v2 v3)) sc⟩,
     ⟨S32x128, mulf (sitofp .bf16 (expand1 (bit i 32#8) (bit i 64#8) v2 v3)) sc⟩,
     ⟨S32x128, mulf (sitofp .bf16 (expand3 (bit i 64#8) (bit i 128#8) v3)) sc⟩]
    concatenates_S32x128_S32x128_S32x128_S32x128_S32x128_S32x128_S32x128_S32x128_S256x128_d0

/-- The weights of a tile: its even columns, then its odd columns. -/
def weights (w : IVec S128x128 8) (x : IVec S32x256 8) (raw0 raw1 raw2 raw3 : FVec F S1x1x2x128 .bf16) : FVec F S256x256 .bf16 :=
  concatenate S256x256 1
    [⟨S256x128, expand (scale raw0 raw1) (evenIdx x) (lowNibbles (byte0 w)) (lowNibbles (byte1 w)) (lowNibbles (byte2 w)) (lowNibbles (byte3 w))⟩,
     ⟨S256x128, expand (scale raw2 raw3) (oddIdx x) (highNibbles (byte0 w)) (highNibbles (byte1 w)) (highNibbles (byte2 w)) (highNibbles (byte3 w))⟩]
    concatenates_S256x128_S256x128_S256x256_d1

/-- A tile's product. -/
def product (xp : FVec F S1x256x256 .bf16) (W : FVec F S256x256 .bf16) : FVec F S256x256 .f32 :=
  matmul dot_S256x256_S256x256_S256x256_1_0_0_1_n_n none (shapeCast S256x256 xp shapeCasts_S1x256x256_S256x256) W
    (constant S256x256 .f32 0x00000000#32)

/-! ## The sum over the tiles -/

/-- Fourteen blocks added, from the first on. -/
def sum14 (p : Fin 14 → FVec F S256x256 .f32) : FVec F S256x256 .f32 :=
  addf (addf (addf (addf (addf (addf (addf (addf (addf (addf (addf (addf (addf (p 0) (p 1)) (p 2)) (p 3)) (p 4)) (p 5))
    (p 6)) (p 7)) (p 8)) (p 9)) (p 10)) (p 11)) (p 12)) (p 13)

/-- What a block of the result is the sum of: the fourteen tiles' products. -/
def blockSum (xp : Fin 14 → FVec F S1x256x256 .bf16) (w : Fin 14 → IVec S128x128 8) (x : Fin 14 → IVec S32x256 8)
    (raw : Fin 4 → Fin 14 → FVec F S1x1x2x128 .bf16) : FVec F S256x256 .f32 :=
  sum14 fun kt => product (xp kt) (weights (w kt) (x kt) (raw 0 kt) (raw 1 kt) (raw 2 kt) (raw 3 kt))

/-! ## The scale scratch -/

/-- Half of the scales' rows, times a sixteenth. -/
def sixteenth (h : FVec F S14x256 .bf16) : FVec F S14x256 .f32 :=
  mulf (extf .f32 h) (broadcast S14x256 (Scalar.ofBits .f32 0x3D800000#32))

/-- The even columns of half of the scales' rows. -/
def evenScales (h : FVec F S14x256 .bf16) : FVec F S14x128 .f32 :=
  evenColumns iota_S14x128_d1_w32 shapeCasts_S14x128_S14x128x1 shapeCasts_S14x128x1_S14x128
    (extractStridedSlice S14x128 ![0, 0] (sixteenth h) slices_S14x256_o0_0_S14x128)
    (extractStridedSlice S14x128 ![0, 128] (sixteenth h) slices_S14x256_o0_128_S14x128)

/-- The odd columns of half of the scales' rows. -/
def oddScales (h : FVec F S14x256 .bf16) : FVec F S14x128 .f32 :=
  oddColumns iota_S14x128_d1_w32 shapeCasts_S14x128_S14x128x1 shapeCasts_S14x128x1_S14x128 rotates_S14x128_d1
    (extractStridedSlice S14x128 ![0, 0] (sixteenth h) slices_S14x256_o0_0_S14x128)
    (extractStridedSlice S14x128 ![0, 128] (sixteenth h) slices_S14x256_o0_128_S14x128)

/-- Fourteen rows of scales, each in both rows of its pair. -/
def pairRows (v : FVec F S14x128 .f32) : FVec F S1x14x2x128 .bf16 :=
  interleaveRows S1x14x2x128
    (shapeCast S1x14x1x128 (shapeCast S1x14x128 (truncf .bf16 v bitsLt_bf16_f32) shapeCasts_S14x128_S1x14x128) shapeCasts_S1x14x128_S1x14x1x128)
    (shapeCast S1x14x1x128 (shapeCast S1x14x128 (truncf .bf16 v bitsLt_bf16_f32) shapeCasts_S14x128_S1x14x128) shapeCasts_S1x14x128_S1x14x1x128)
    bitcasts_S1x14x2x128_w16_S1x14x1x128_w32

/-- What the scale scratch holds, the last store first: of the even rows of the scales the even and the odd columns at 0
    and 2, of the odd rows at 1 and 3. -/
def scalePieces (s : FVec F S28x256 .bf16) : List (View.Piece (Elt F) S4x14x2x128 .bf16) :=
  [⟨Rect.unit ![3, 0, 0, 0] S1x14x2x128.size inb_S4x14x2x128_S1x14x2x128_3_0_0_0,
      pairRows (oddScales (rowsOfParity 1 S14x256 s bitcasts_S28x256_w16_S14x256_w32))⟩,
   ⟨Rect.unit ![1, 0, 0, 0] S1x14x2x128.size inb_S4x14x2x128_S1x14x2x128_1_0_0_0,
      pairRows (evenScales (rowsOfParity 1 S14x256 s bitcasts_S28x256_w16_S14x256_w32))⟩,
   ⟨Rect.unit ![2, 0, 0, 0] S1x14x2x128.size inb_S4x14x2x128_S1x14x2x128_2_0_0_0,
      pairRows (oddScales (rowsOfParity 0 S14x256 s bitcasts_S28x256_w16_S14x256_w32))⟩,
   ⟨Rect.unit ![0, 0, 0, 0] S1x14x2x128.size inb_S4x14x2x128_S1x14x2x128_0_0_0_0,
      pairRows (evenScales (rowsOfParity 0 S14x256 s bitcasts_S28x256_w16_S14x256_w32))⟩]

/-! ## The scratch of permuted columns -/

/-- The column number. -/
def column : IVec S256x256 32 := iota .tc S256x256 32 [1] iota_S256x256_d1_w32

/-- The divisor thirty-two, as a remainder takes it: one in place of zero. -/
def thirtyTwo : BitVec 32 := Scalar.select (Scalar.cmpi .eq 32#32 0#32) 1#32 32#32

/-- The column number's remainder by thirty-two. -/
def columnRem : IVec S256x256 32 :=
  select (andi
      (xori (cmpi .slt (remsi column (broadcast S256x256 thirtyTwo)) (broadcast S256x256 0#32))
        (broadcastTo S256x256 (broadcast S256x256 (Scalar.cmpi .slt thirtyTwo 0#32)) broadcasts_S256x256_S256x256))
      (cmpi .ne (remsi column (broadcast S256x256 thirtyTwo)) (broadcast S256x256 0#32)))
    (addi (remsi column (broadcast S256x256 thirtyTwo)) (broadcast S256x256 thirtyTwo))
    (remsi column (broadcast S256x256 thirtyTwo))

/-- The column number divided by thirty-two, rounded down. -/
def columnDiv : IVec S256x256 32 :=
  select (andi
      (cmpi .ne (subi (extui 32 (cmpi .sgt column (broadcast S256x256 0#32)) natLt_1_32)
          (extui 32 (cmpi .slt column (broadcast S256x256 0#32)) natLt_1_32))
        (broadcast S256x256 (Scalar.subi (Scalar.extui (Scalar.cmpi .sgt 32#32 0#32)) (Scalar.extui (Scalar.cmpi .slt 32#32 0#32)))))
      (cmpi .ne (remsi column (broadcast S256x256 32#32)) (broadcast S256x256 0#32)))
    (subi (divsi column (broadcast S256x256 32#32)) (broadcast S256x256 1#32))
    (divsi column (broadcast S256x256 32#32))

/-- The permutation: one where the row is `8 (q mod 32) + q / 32` for the column `q`. -/
def permutation : FVec F S256x256 .bf16 :=
  truncf .bf16 (select (cmpi .eq (iota .tc S256x256 32 [0] iota_S256x256_d0_w32)
      (addi (muli (broadcast S256x256 8#32) columnRem) columnDiv))
    (broadcast S256x256 (Scalar.ofBits .f32 0x3F800000#32)) (broadcast S256x256 (Scalar.ofBits .f32 0x00000000#32))) bitsLt_bf16_f32

/-- 256 columns of the activations, permuted. -/
def permuted (x : FVec F S256x256 .bf16) : FVec F S1x256x256 .bf16 :=
  shapeCast S1x256x256 (truncf .bf16 (matmul dot_S256x256_S256x256_S256x256_1_0_0_1_n_n none
    (shapeCast S256x256 x shapeCasts_S256x256_S256x256) permutation (constant S256x256 .f32 0x00000000#32)) bitsLt_bf16_f32)
    shapeCasts_S256x256_S1x256x256

/-- What the scratch of permuted columns holds, the last store first. -/
def columnPieces (x : Fin 14 → FVec F S256x256 .bf16) : List (View.Piece (Elt F) S14x256x256 .bf16) :=
  [⟨Rect.unit ![13, 0, 0] S1x256x256.size inb_S14x256x256_S1x256x256_13_0_0, permuted (x 13)⟩,
   ⟨Rect.unit ![12, 0, 0] S1x256x256.size inb_S14x256x256_S1x256x256_12_0_0, permuted (x 12)⟩,
   ⟨Rect.unit ![11, 0, 0] S1x256x256.size inb_S14x256x256_S1x256x256_11_0_0, permuted (x 11)⟩,
   ⟨Rect.unit ![10, 0, 0] S1x256x256.size inb_S14x256x256_S1x256x256_10_0_0, permuted (x 10)⟩,
   ⟨Rect.unit ![9, 0, 0] S1x256x256.size inb_S14x256x256_S1x256x256_9_0_0, permuted (x 9)⟩,
   ⟨Rect.unit ![8, 0, 0] S1x256x256.size inb_S14x256x256_S1x256x256_8_0_0, permuted (x 8)⟩,
   ⟨Rect.unit ![7, 0, 0] S1x256x256.size inb_S14x256x256_S1x256x256_7_0_0, permuted (x 7)⟩,
   ⟨Rect.unit ![6, 0, 0] S1x256x256.size inb_S14x256x256_S1x256x256_6_0_0, permuted (x 6)⟩,
   ⟨Rect.unit ![5, 0, 0] S1x256x256.size inb_S14x256x256_S1x256x256_5_0_0, permuted (x 5)⟩,
   ⟨Rect.unit ![4, 0, 0] S1x256x256.size inb_S14x256x256_S1x256x256_4_0_0, permuted (x 4)⟩,
   ⟨Rect.unit ![3, 0, 0] S1x256x256.size inb_S14x256x256_S1x256x256_3_0_0, permuted (x 3)⟩,
   ⟨Rect.unit ![2, 0, 0] S1x256x256.size inb_S14x256x256_S1x256x256_2_0_0, permuted (x 2)⟩,
   ⟨Rect.unit ![1, 0, 0] S1x256x256.size inb_S14x256x256_S1x256x256_1_0_0, permuted (x 1)⟩,
   ⟨Rect.unit ![0, 0, 0] S1x256x256.size inb_S14x256x256_S1x256x256_0_0_0, permuted (x 0)⟩]

/-! ## The pieces stored -/

/-- The lane number, in sixteen rows. -/
abbrev lane16 : IVec S16x128 32 := lane 16 iota_S16x128_d1_w32

/-- The lane number halved, rounded down. -/
def halfLane : IVec S16x128 32 :=
  select (andi
      (cmpi .ne (subi (extui 32 (cmpi .sgt lane16 (broadcast S16x128 0#32)) natLt_1_32)
          (extui 32 (cmpi .slt lane16 (broadcast S16x128 0#32)) natLt_1_32))
        (broadcast S16x128 (Scalar.subi (Scalar.extui (Scalar.cmpi .sgt 2#32 0#32)) (Scalar.extui (Scalar.cmpi .slt 2#32 0#32)))))
      (cmpi .ne (remsi lane16 (broadcast S16x128 2#32)) (broadcast S16x128 0#32)))
    (subi (divsi lane16 (broadcast S16x128 2#32)) (broadcast S16x128 1#32))
    (divsi lane16 (broadcast S16x128 2#32))

/-- The divisor two, as a remainder takes it: one in place of zero. -/
def two : BitVec 32 := Scalar.select (Scalar.cmpi .eq 2#32 0#32) 1#32 2#32

/-- The lane number's remainder by two. -/
def parityLane : IVec S16x128 32 :=
  select (andi
      (xori (cmpi .slt (remsi lane16 (broadcast S16x128 two)) (broadcast S16x128 0#32))
        (broadcastTo S16x128 (broadcast S16x128 (Scalar.cmpi .slt two 0#32)) broadcasts_S16x128_S16x128))
      (cmpi .ne (remsi lane16 (broadcast S16x128 two)) (broadcast S16x128 0#32)))
    (addi (remsi lane16 (broadcast S16x128 two)) (broadcast S16x128 two))
    (remsi lane16 (broadcast S16x128 two))

/-- The lower lanes of the even columns `e` and the odd columns `o`, interleaved. -/
def mergeLeft (e o : FVec F S16x128 .f32) : FVec F S16x128 .bf16 :=
  truncf .bf16 (gatherLanes shapeCasts_S16x128_S16x128x1 shapeCasts_S16x128x1_S16x128 (select (lowLanes 16 iota_S16x128_d1_w32) e (dynamicRotate 1 64#32 none o rotates_S16x128_d1))
    (addi halfLane (muli (broadcast S16x128 64#32) parityLane))) bitsLt_bf16_f32

/-- The upper lanes of the even columns `e` and the odd columns `o`, interleaved. -/
def mergeRight (e o : FVec F S16x128 .f32) : FVec F S16x128 .bf16 :=
  truncf .bf16 (gatherLanes shapeCasts_S16x128_S16x128x1 shapeCasts_S16x128x1_S16x128 (select (lowLanes 16 iota_S16x128_d1_w32) (dynamicRotate 1 64#32 none o rotates_S16x128_d1) e)
    (subi (addi halfLane (broadcast S16x128 64#32)) (muli (broadcast S16x128 64#32) parityLane))) bitsLt_bf16_f32

/-- The left piece of the rows from `r` of a block of sums. -/
def left (acc : FVec F S256x256 .f32) (r : ℕ) (h0 : S256x256.Slices ![r, 0] S16x128) (h1 : S256x256.Slices ![r, 128] S16x128) :
    FVec F S16x128 .bf16 :=
  mergeLeft (extractStridedSlice S16x128 ![r, 0] acc h0) (extractStridedSlice S16x128 ![r, 128] acc h1)

/-- The right piece of the rows from `r` of a block of sums. -/
def right (acc : FVec F S256x256 .f32) (r : ℕ) (h0 : S256x256.Slices ![r, 0] S16x128) (h1 : S256x256.Slices ![r, 128] S16x128) :
    FVec F S16x128 .bf16 :=
  mergeRight (extractStridedSlice S16x128 ![r, 0] acc h0) (extractStridedSlice S16x128 ![r, 128] acc h1)

/-- The sixteen-row pieces of a block of sums, the last one first. -/
def pieces (acc : FVec F S256x256 .f32) : List (View.Piece (Elt F) S256x256 .bf16) :=
  [⟨Rect.unit ![240, 128] S16x128.size inb_S256x256_S16x128_240_128, right acc 240 slices_S256x256_o240_0_S16x128 slices_S256x256_o240_128_S16x128⟩,
   ⟨Rect.unit ![240, 0] S16x128.size inb_S256x256_S16x128_240_0, left acc 240 slices_S256x256_o240_0_S16x128 slices_S256x256_o240_128_S16x128⟩,
   ⟨Rect.unit ![224, 128] S16x128.size inb_S256x256_S16x128_224_128, right acc 224 slices_S256x256_o224_0_S16x128 slices_S256x256_o224_128_S16x128⟩,
   ⟨Rect.unit ![224, 0] S16x128.size inb_S256x256_S16x128_224_0, left acc 224 slices_S256x256_o224_0_S16x128 slices_S256x256_o224_128_S16x128⟩,
   ⟨Rect.unit ![208, 128] S16x128.size inb_S256x256_S16x128_208_128, right acc 208 slices_S256x256_o208_0_S16x128 slices_S256x256_o208_128_S16x128⟩,
   ⟨Rect.unit ![208, 0] S16x128.size inb_S256x256_S16x128_208_0, left acc 208 slices_S256x256_o208_0_S16x128 slices_S256x256_o208_128_S16x128⟩,
   ⟨Rect.unit ![192, 128] S16x128.size inb_S256x256_S16x128_192_128, right acc 192 slices_S256x256_o192_0_S16x128 slices_S256x256_o192_128_S16x128⟩,
   ⟨Rect.unit ![192, 0] S16x128.size inb_S256x256_S16x128_192_0, left acc 192 slices_S256x256_o192_0_S16x128 slices_S256x256_o192_128_S16x128⟩,
   ⟨Rect.unit ![176, 128] S16x128.size inb_S256x256_S16x128_176_128, right acc 176 slices_S256x256_o176_0_S16x128 slices_S256x256_o176_128_S16x128⟩,
   ⟨Rect.unit ![176, 0] S16x128.size inb_S256x256_S16x128_176_0, left acc 176 slices_S256x256_o176_0_S16x128 slices_S256x256_o176_128_S16x128⟩,
   ⟨Rect.unit ![160, 128] S16x128.size inb_S256x256_S16x128_160_128, right acc 160 slices_S256x256_o160_0_S16x128 slices_S256x256_o160_128_S16x128⟩,
   ⟨Rect.unit ![160, 0] S16x128.size inb_S256x256_S16x128_160_0, left acc 160 slices_S256x256_o160_0_S16x128 slices_S256x256_o160_128_S16x128⟩,
   ⟨Rect.unit ![144, 128] S16x128.size inb_S256x256_S16x128_144_128, right acc 144 slices_S256x256_o144_0_S16x128 slices_S256x256_o144_128_S16x128⟩,
   ⟨Rect.unit ![144, 0] S16x128.size inb_S256x256_S16x128_144_0, left acc 144 slices_S256x256_o144_0_S16x128 slices_S256x256_o144_128_S16x128⟩,
   ⟨Rect.unit ![128, 128] S16x128.size inb_S256x256_S16x128_128_128, right acc 128 slices_S256x256_o128_0_S16x128 slices_S256x256_o128_128_S16x128⟩,
   ⟨Rect.unit ![128, 0] S16x128.size inb_S256x256_S16x128_128_0, left acc 128 slices_S256x256_o128_0_S16x128 slices_S256x256_o128_128_S16x128⟩,
   ⟨Rect.unit ![112, 128] S16x128.size inb_S256x256_S16x128_112_128, right acc 112 slices_S256x256_o112_0_S16x128 slices_S256x256_o112_128_S16x128⟩,
   ⟨Rect.unit ![112, 0] S16x128.size inb_S256x256_S16x128_112_0, left acc 112 slices_S256x256_o112_0_S16x128 slices_S256x256_o112_128_S16x128⟩,
   ⟨Rect.unit ![96, 128] S16x128.size inb_S256x256_S16x128_96_128, right acc 96 slices_S256x256_o96_0_S16x128 slices_S256x256_o96_128_S16x128⟩,
   ⟨Rect.unit ![96, 0] S16x128.size inb_S256x256_S16x128_96_0, left acc 96 slices_S256x256_o96_0_S16x128 slices_S256x256_o96_128_S16x128⟩,
   ⟨Rect.unit ![80, 128] S16x128.size inb_S256x256_S16x128_80_128, right acc 80 slices_S256x256_o80_0_S16x128 slices_S256x256_o80_128_S16x128⟩,
   ⟨Rect.unit ![80, 0] S16x128.size inb_S256x256_S16x128_80_0, left acc 80 slices_S256x256_o80_0_S16x128 slices_S256x256_o80_128_S16x128⟩,
   ⟨Rect.unit ![64, 128] S16x128.size inb_S256x256_S16x128_64_128, right acc 64 slices_S256x256_o64_0_S16x128 slices_S256x256_o64_128_S16x128⟩,
   ⟨Rect.unit ![64, 0] S16x128.size inb_S256x256_S16x128_64_0, left acc 64 slices_S256x256_o64_0_S16x128 slices_S256x256_o64_128_S16x128⟩,
   ⟨Rect.unit ![48, 128] S16x128.size inb_S256x256_S16x128_48_128, right acc 48 slices_S256x256_o48_0_S16x128 slices_S256x256_o48_128_S16x128⟩,
   ⟨Rect.unit ![48, 0] S16x128.size inb_S256x256_S16x128_48_0, left acc 48 slices_S256x256_o48_0_S16x128 slices_S256x256_o48_128_S16x128⟩,
   ⟨Rect.unit ![32, 128] S16x128.size inb_S256x256_S16x128_32_128, right acc 32 slices_S256x256_o32_0_S16x128 slices_S256x256_o32_128_S16x128⟩,
   ⟨Rect.unit ![32, 0] S16x128.size inb_S256x256_S16x128_32_0, left acc 32 slices_S256x256_o32_0_S16x128 slices_S256x256_o32_128_S16x128⟩,
   ⟨Rect.unit ![16, 128] S16x128.size inb_S256x256_S16x128_16_128, right acc 16 slices_S256x256_o16_0_S16x128 slices_S256x256_o16_128_S16x128⟩,
   ⟨Rect.unit ![16, 0] S16x128.size inb_S256x256_S16x128_16_0, left acc 16 slices_S256x256_o16_0_S16x128 slices_S256x256_o16_128_S16x128⟩,
   ⟨Rect.unit ![0, 128] S16x128.size inb_S256x256_S16x128_0_128, right acc 0 slices_S256x256_o0_0_S16x128 slices_S256x256_o0_128_S16x128⟩,
   ⟨Rect.unit ![0, 0] S16x128.size inb_S256x256_S16x128_0_0, left acc 0 slices_S256x256_o0_0_S16x128 slices_S256x256_o0_128_S16x128⟩]

end Cert.Proof.Tile

end
-- ==== Proof.Runs.lean ====
/-
  The pieces the kernel body's two runs store, as the functions of Tile.lean: on the first grid point (which also fills the
  scratch of permuted columns) and on every later one.
-/
module

public import proofs.«01_k».proof.Proof.Gen.KernelIdeal.Value
public import proofs.«01_k».proof.Proof.Tile

@[expose] public section

set_option maxRecDepth 16384

noncomputable section

namespace Cert.Proof.Runs

open Idealize.ShloMosaic Idealize.SL.Sem Cert.KernelIdeal Cert.KernelIdeal.Gen Cert.Proof.Tile

variable {F : FTy → Type} [FloatOps F]
variable (c : Dev nD) (i : grid0.Coords) (arg1 : Memref sig .tc .vmem S256x3584 .bf16) (harg1 : arg1.IsWhole)
  (arg2 : Memref sig .tc .vmem S1792x128 .i8) (harg2 : arg2.IsWhole) (arg3 : Memref sig .tc .vmem S448x256 .i8) (harg3 : arg3.IsWhole)
  (arg4 : Memref sig .tc .vmem S28x256 .bf16) (harg4 : arg4.IsWhole) (arg5 : Memref sig .tc .vmem S256x256 .bf16) (harg5 : arg5.IsWhole)
  (arg6 : Memref sig .tc .vmem S14x256x256 .bf16) (harg6 : arg6.IsWhole) (arg7 : Memref sig .tc .vmem S4x14x2x128 .bf16) (harg7 : arg7.IsWhole)
  (x0 : Vec F S256x3584 .bf16) (x1 : Vec F S1792x128 .i8) (x2 : Vec F S448x256 .i8) (x3 : Vec F S28x256 .bf16)

/-- The columns of a tile of activations lie in the activations. -/
theorem inb_x (k : Fin 14) : ∀ a, (![0, 256 * k.val] : Fin 2 → ℕ) a + S256x256.size a ≤ S256x3584.size a := by
  revert k; decide

/-- The rows of a tile of weight bytes lie in their block. -/
theorem inb_w (k : Fin 14) : ∀ a, (![128 * k.val, 0] : Fin 2 → ℕ) a + S128x128.size a ≤ S1792x128.size a := by
  revert k; decide

/-- The rows of a tile of position bytes lie in their block. -/
theorem inb_i (k : Fin 14) : ∀ a, (![32 * k.val, 0] : Fin 2 → ℕ) a + S32x256.size a ≤ S448x256.size a := by
  revert k; decide

/-- A tile of the scratch of permuted columns lies in it. -/
theorem inb_xp (k : Fin 14) : ∀ a, (![k.val, 0, 0] : Fin 3 → ℕ) a + S1x256x256.size a ≤ S14x256x256.size a := by
  revert k; decide

/-- One packed row of the scale scratch lies in it. -/
theorem inb_s (j : Fin 4) (k : Fin 14) : ∀ a, (![j.val, k.val, 0, 0] : Fin 4 → ℕ) a + S1x1x2x128.size a ≤ S4x14x2x128.size a := by
  revert j k; decide

/-- Columns `256 k` to `256 k + 255` of the activations, as the body loads them. -/
def loadX (k : Fin 14) : FVec F S256x256 .bf16 :=
  View.readAt (Elt F) arg1.view (Rect.unit (s := S256x3584) ![0, 256 * k.val] S256x256.size (inb_x k)).toLoadRect (harg1.unread x0)

/-- Rows `128 k` to `128 k + 127` of a block of weight bytes, as the body loads them. -/
def loadW (k : Fin 14) : IVec S128x128 8 :=
  View.readAt (Elt F) arg2.view (Rect.unit (s := S1792x128) ![128 * k.val, 0] S128x128.size (inb_w k)).toLoadRect (harg2.unread x1)

/-- Rows `32 k` to `32 k + 31` of a block of position bytes, as the body loads them. -/
def loadI (k : Fin 14) : IVec S32x256 8 :=
  View.readAt (Elt F) arg3.view (Rect.unit (s := S448x256) ![32 * k.val, 0] S32x256.size (inb_i k)).toLoadRect (harg3.unread x2)

/-- A block of scales, as the body loads it. -/
def loadS : FVec F S28x256 .bf16 :=
  View.readAt (Elt F) arg4.view (Rect.unit (s := S28x256) ![0, 0] S28x256.size inb_S28x256_S28x256_0_0).toLoadRect (harg4.unread x3)

/-- One packed row of the scale scratch, as the body loads it back. -/
def loadRaw (s : FVec F S28x256 .bf16) (j : Fin 4) (k : Fin 14) : FVec F S1x1x2x128 .bf16 :=
  arg7.view.readCov (scalePieces s) (Rect.unit (s := S4x14x2x128) ![j.val, k.val, 0, 0] S1x1x2x128.size (inb_s j k)).toLoadRect

/-- One tile of the scratch of permuted columns, as a later grid point's body loads it. -/
def loadXp (xs0 : Vec F S14x256x256 .bf16) (k : Fin 14) : FVec F S1x256x256 .bf16 :=
  View.readAt (Elt F) arg6.view (Rect.unit (s := S14x256x256) ![k.val, 0, 0] S1x256x256.size (inb_xp k)).toLoadRect (harg6.unread xs0)

/-- One tile of the scratch of permuted columns, as the first grid point's body loads it back. -/
def loadXp0 (x : Fin 14 → FVec F S256x256 .bf16) (k : Fin 14) : FVec F S1x256x256 .bf16 :=
  arg6.view.readCov (columnPieces x) (Rect.unit (s := S14x256x256) ![k.val, 0, 0] S1x256x256.size (inb_xp k)).toLoadRect

/-- What the first grid point stores into the scratch of permuted columns. -/
theorem stores_A0 (hc0 : cond0_0 i) :
    (kernelRun0_A c i arg1 harg1 arg2 harg2 arg3 harg3 arg4 harg4 arg5 harg5 arg6 harg6 arg7 harg7 hc0 x0 x1 x2 x3).2.1
      = columnPieces (loadX arg1 harg1 x0) := by sl_kernel_rfl

/-- What the first grid point stores into the result's block. -/
theorem stores_A (hc0 : cond0_0 i) :
    (kernelRun0_A c i arg1 harg1 arg2 harg2 arg3 harg3 arg4 harg4 arg5 harg5 arg6 harg6 arg7 harg7 hc0 x0 x1 x2 x3).1
      = pieces (blockSum (loadXp0 arg6 (loadX arg1 harg1 x0)) (loadW arg2 harg2 x1) (loadI arg3 harg3 x2)
    (loadRaw arg7 (loadS arg4 harg4 x3))) := by sl_kernel_rfl

/-- What a later grid point stores into the result's block. -/
theorem stores_B (hc0 : ¬cond0_0 i) (xs0 : Vec F S14x256x256 .bf16) :
    (kernelRun0_B c i arg1 harg1 arg2 harg2 arg3 harg3 arg4 harg4 arg5 harg5 arg6 harg6 arg7 harg7 hc0 x0 x1 x2 x3 xs0).1
      = pieces (blockSum (loadXp arg6 harg6 xs0) (loadW arg2 harg2 x1) (loadI arg3 harg3 x2)
    (loadRaw arg7 (loadS arg4 harg4 x3))) := by sl_kernel_rfl

end Cert.Proof.Runs

end
-- ==== Proof.Lanes.lean ====
/-
  The kernel's moves of lanes read at an index: of 256 columns the even and the odd ones, and back.
-/
module

public import proofs.«01_k».proof.Proof.Tile
public import Idealize.ShloMosaic.Lib.Pointwise
public import Idealize.ShloMosaic.Lib.Pipeline.Value

@[expose] public section

set_option maxRecDepth 16384

noncomputable section

namespace Cert.Proof.Tile

open Idealize.ShloMosaic Idealize.SL.Sem Cert.KernelIdeal Cert.KernelIdeal.Gen

variable {F : FTy → Type} [FloatOps F]

/-- A lane number, taken as it is where it is not negative. -/
theorem lane_fixed (k : Fin 128) :
    (Scalar.select (IntOp.cmpi CmpIPredicate.slt (BitVec.ofNat 32 k.val) 0#32)
      (IntOp.addi (BitVec.ofNat 32 k.val) 128#32) (BitVec.ofNat 32 k.val)).toNat % 128 = k.val := by
  revert k; decide

/-- Lanes gathered, at an index: the lane the index vector names. -/
theorem gatherLanes_apply {R : ℕ} (h : (Rows R).ShapeCasts ⟨3, ![R, 128, 1]⟩) (h' : (⟨3, ![R, 128, 1]⟩ : Shape).ShapeCasts (Rows R))
    {e : Type} (x : (Rows R).Idx → e) (i : IVec (Rows R) 32) (r : Fin R) (l k : Fin 128)
    (hk : i (ix2 r l) = BitVec.ofNat 32 k.val) : gatherLanes h h' x i (ix2 r l) = x (ix2 r k) := by
  unfold gatherLanes
  rw [shapeCast_shapeCast]
  refine congrArg x (funext fun b => ?_)
  match b with
  | 0 => rfl
  | 1 =>
    apply Fin.ext
    refine Eq.trans ?_ (lane_fixed k)
    rw [← hk]
    rfl

/-- The lanes below 64, at an index. -/
theorem lowLanes_apply (R : ℕ) (h : (Rows R).Iotas .tc 32 [1]) (r : Fin R) (l : Fin 128) :
    lowLanes R h (ix2 r l) = if l.val < 64 then 1#1 else 0#1 := by
  pointwise [lowLanes, lane]
  revert l; decide

/-- The lanes of the even columns' gather. -/
theorem evenLanes_apply (R : ℕ) (h : (Rows R).Iotas .tc 32 [1]) (r : Fin R) (l : Fin 128) :
    evenLanes R h (ix2 r l) = BitVec.ofNat 32 (if l.val < 64 then 2 * l.val else 2 * l.val - 127) := by
  pointwise [evenLanes, lowLanes, lane]
  revert l; decide

/-- The lanes of the odd columns' gather. -/
theorem oddLanes_apply (R : ℕ) (h : (Rows R).Iotas .tc 32 [1]) (r : Fin R) (l : Fin 128) :
    oddLanes R h (ix2 r l) = BitVec.ofNat 32 (if l.val < 64 then 2 * l.val + 1 else 2 * l.val - 128) := by
  pointwise [oddLanes, lowLanes, lane]
  revert l; decide

/-- A choice between two vectors, at an index where the condition is known. -/
theorem select_of {s : Shape} {e : Type} (c : IVec s 1) (a b : s.Idx → e) (j : s.Idx) (p : Prop) [Decidable p]
    (h : c j = if p then 1#1 else 0#1) : select c a b j = if p then a j else b j := by
  unfold select
  rw [h]
  by_cases hp : p
  · rw [if_pos hp, if_pos hp]; rfl
  · rw [if_neg hp, if_neg hp]; rfl

/-- A rotation by half of the lanes, at an index. -/
theorem rotate_apply {R : ℕ} (hr : (Rows R).Rotates 1 none) {e : Type} (x : (Rows R).Idx → e) (r : Fin R) (l : Fin 128) :
    dynamicRotate 1 64#32 none x hr (ix2 r l) = x (ix2 r ⟨(l.val + 64) % 128, by omega⟩) := by
  unfold dynamicRotate
  refine congrArg x (funext fun b => ?_)
  match b with
  | 0 => rfl
  | 1 =>
    apply Fin.ext
    show (l.val + 128 - 64 % 128) % 128 = (l.val + 64) % 128
    omega

/-- Of 256 columns, given as a function of the column, the even ones. -/
theorem evenColumns_apply {R : ℕ} (hi : (Rows R).Iotas .tc 32 [1]) (h : (Rows R).ShapeCasts ⟨3, ![R, 128, 1]⟩)
    (h' : (⟨3, ![R, 128, 1]⟩ : Shape).ShapeCasts (Rows R)) {e : Type} (a b : (Rows R).Idx → e) (f : Fin R → Fin 256 → e)
    (ha : ∀ r (l : Fin 128), a (ix2 r l) = f r ⟨l, by omega⟩) (hb : ∀ r (l : Fin 128), b (ix2 r l) = f r ⟨128 + l, by omega⟩)
    (r : Fin R) (l : Fin 128) : evenColumns hi h h' a b (ix2 r l) = f r ⟨2 * l, by omega⟩ := by
  unfold evenColumns
  rw [select_of _ _ _ _ _ (lowLanes_apply R hi _ _)]
  by_cases hl : l.val < 64
  · rw [if_pos hl, gatherLanes_apply h h' a _ r l ⟨2 * l, by omega⟩ (by rw [evenLanes_apply, if_pos hl]), ha]
  · rw [if_neg hl, gatherLanes_apply h h' b _ r l ⟨2 * l - 128, by omega⟩ (by rw [oddLanes_apply, if_neg hl]), hb]
    exact congrArg (f r) (Fin.ext (show 128 + (2 * l.val - 128) = 2 * l.val by omega))

/-- Of 256 columns, given as a function of the column, the odd ones. -/
theorem oddColumns_apply {R : ℕ} (hi : (Rows R).Iotas .tc 32 [1]) (h : (Rows R).ShapeCasts ⟨3, ![R, 128, 1]⟩)
    (h' : (⟨3, ![R, 128, 1]⟩ : Shape).ShapeCasts (Rows R)) (hr : (Rows R).Rotates 1 none) {e : Type} (a b : (Rows R).Idx → e)
    (f : Fin R → Fin 256 → e)
    (ha : ∀ r (l : Fin 128), a (ix2 r l) = f r ⟨l, by omega⟩) (hb : ∀ r (l : Fin 128), b (ix2 r l) = f r ⟨128 + l, by omega⟩)
    (r : Fin R) (l : Fin 128) : oddColumns hi h h' hr a b (ix2 r l) = f r ⟨2 * l + 1, by omega⟩ := by
  unfold oddColumns
  rw [rotate_apply]
  rw [select_of _ _ _ _ _ (lowLanes_apply R hi _ _)]
  by_cases hl : l.val < 64
  · rw [if_neg (by simp only; omega), gatherLanes_apply h h' a _ r _ ⟨2 * l + 1, by omega⟩
      (by rw [evenLanes_apply, if_neg (by simp only; omega)]; congr 1; simp only; omega), ha]
  · rw [if_pos (by simp only; omega), gatherLanes_apply h h' b _ r _ ⟨2 * l - 127, by omega⟩
      (by rw [oddLanes_apply, if_pos (by simp only; omega)]; congr 1; simp only; omega), hb]
    exact congrArg (f r) (Fin.ext (show 128 + (2 * l.val - 127) = 2 * l.val + 1 by omega))

/-- The lane number halved. -/
theorem halfLane_apply (r : Fin 16) (l : Fin 128) : halfLane (ix2 r l) = BitVec.ofNat 32 (l.val / 2) := by
  pointwise [halfLane, lane]
  revert l; decide

/-- The lane number's parity. -/
theorem parityLane_apply (r : Fin 16) (l : Fin 128) : parityLane (ix2 r l) = BitVec.ofNat 32 (l.val % 2) := by
  pointwise [parityLane, lane, two]
  revert l; decide

/-- The column number's remainder by thirty-two. -/
theorem columnRem_apply (q c : Fin 256) : columnRem (ix2 q c) = BitVec.ofNat 32 (c.val % 32) := by
  pointwise [columnRem, column, thirtyTwo]
  revert c; decide

/-- The column number divided by thirty-two. -/
theorem columnDiv_apply (q c : Fin 256) : columnDiv (ix2 q c) = BitVec.ofNat 32 (c.val / 32) := by
  pointwise [columnDiv, column]
  revert c; decide

/-- The lower lanes of two vectors interleaved, at an index. -/
theorem mergeLeft_apply (e o : FVec Ideal S16x128 .f32) (r : Fin 16) (j : Fin 128) :
    mergeLeft e o (ix2 r j) = if j.val % 2 = 0 then e (ix2 r ⟨j / 2, by omega⟩) else o (ix2 r ⟨j / 2, by omega⟩) := by
  have hi : addi halfLane (muli (broadcast S16x128 64#32) parityLane) (ix2 r j)
      = BitVec.ofNat 32 (j.val / 2 + 64 * (j.val % 2)) := by
    pointwise
    simp only [halfLane_apply, parityLane_apply]
    revert j; decide
  unfold mergeLeft truncf
  dsimp only [Ideal.truncf_def]
  rw [gatherLanes_apply _ _ _ _ r j ⟨j / 2 + 64 * (j % 2), by omega⟩ hi, select_of _ _ _ _ _ (lowLanes_apply 16 _ _ _), rotate_apply]
  by_cases hj : j.val % 2 = 0
  · rw [if_pos hj, if_pos (by simp only; omega)]
    congr 2; apply Fin.ext; simp only; omega
  · rw [if_neg hj, if_neg (by simp only; omega)]
    congr 2; apply Fin.ext; simp only; omega

/-- The upper lanes of two vectors interleaved, at an index. -/
theorem mergeRight_apply (e o : FVec Ideal S16x128 .f32) (r : Fin 16) (j : Fin 128) :
    mergeRight e o (ix2 r j) = if j.val % 2 = 0 then e (ix2 r ⟨64 + j / 2, by omega⟩) else o (ix2 r ⟨64 + j / 2, by omega⟩) := by
  have hi : subi (addi halfLane (broadcast S16x128 64#32)) (muli (broadcast S16x128 64#32) parityLane) (ix2 r j)
      = BitVec.ofNat 32 (j.val / 2 + 64 - 64 * (j.val % 2)) := by
    pointwise
    simp only [halfLane_apply, parityLane_apply]
    revert j; decide
  unfold mergeRight truncf
  dsimp only [Ideal.truncf_def]
  rw [gatherLanes_apply _ _ _ _ r j ⟨j / 2 + 64 - 64 * (j % 2), by omega⟩ hi, select_of _ _ _ _ _ (lowLanes_apply 16 _ _ _), rotate_apply]
  by_cases hj : j.val % 2 = 0
  · rw [if_pos hj, if_neg (by simp only; omega)]
    congr 2; apply Fin.ext; simp only; omega
  · rw [if_neg hj, if_pos (by simp only; omega)]
    congr 2; apply Fin.ext; simp only; omega

/-- The column of a block's sums that a column of the block shows. -/
def merged (c : Fin 256) : Fin 256 := ⟨128 * (c % 2) + c / 2, by omega⟩

/-- The left piece of the rows from `r`, at an index. -/
theorem left_apply (acc : FVec Ideal S256x256 .f32) (r : ℕ) (hr : r ≤ 240) (h0 : S256x256.Slices ![r, 0] S16x128)
    (h1 : S256x256.Slices ![r, 128] S16x128) (a : Fin 16) (j : Fin 128) :
    left acc r h0 h1 (ix2 a j) = acc (ix2 ⟨r + a, by omega⟩ (merged ⟨j, by omega⟩)) := by
  unfold left
  rw [mergeLeft_apply]
  pointwise
  split_ifs with hj
  · congr 2; apply Fin.ext; simp only [merged]; omega
  · congr 2; apply Fin.ext; simp only [merged]; omega

/-- The right piece of the rows from `r`, at an index. -/
theorem right_apply (acc : FVec Ideal S256x256 .f32) (r : ℕ) (hr : r ≤ 240) (h0 : S256x256.Slices ![r, 0] S16x128)
    (h1 : S256x256.Slices ![r, 128] S16x128) (a : Fin 16) (j : Fin 128) :
    right acc r h0 h1 (ix2 a j) = acc (ix2 ⟨r + a, by omega⟩ (merged ⟨128 + j, by omega⟩)) := by
  unfold right
  rw [mergeRight_apply]
  pointwise
  split_ifs with hj
  · congr 2; apply Fin.ext; simp only [merged]; omega
  · congr 2; apply Fin.ext; simp only [merged]; omega

/-- A left piece shows, at each of its elements, the sums with their columns merged. -/
theorem left_piece (acc : FVec Ideal S256x256 .f32) (r : ℕ) (hr : r ≤ 240) (h0 : S256x256.Slices ![r, 0] S16x128)
    (h1 : S256x256.Slices ![r, 128] S16x128) (hb : ∀ a, (![r, 0] : Fin 2 → ℕ) a + S16x128.size a ≤ S256x256.size a) (x : S16x128.Idx) :
    left acc r h0 h1 x = acc (ix2 ((Rect.unit (s := S256x256) ![r, 0] S16x128.size hb).emb x 0) (merged ((Rect.unit (s := S256x256) ![r, 0] S16x128.size hb).emb x 1))) := by
  obtain ⟨a, j, rfl⟩ : ∃ (a : Fin 16) (j : Fin 128), x = ix2 a j := ⟨x 0, x 1, eq_ix2 x⟩
  refine (left_apply acc r hr h0 h1 a j).trans (congrArg₂ (fun m c => acc (ix2 m (merged c))) (Fin.ext ?_) (Fin.ext ?_))
  · show r + a.val = r + 1 * a.val
    omega
  · show j.val = 0 + 1 * j.val
    omega

/-- A right piece shows, at each of its elements, the sums with their columns merged. -/
theorem right_piece (acc : FVec Ideal S256x256 .f32) (r : ℕ) (hr : r ≤ 240) (h0 : S256x256.Slices ![r, 0] S16x128)
    (h1 : S256x256.Slices ![r, 128] S16x128) (hb : ∀ a, (![r, 128] : Fin 2 → ℕ) a + S16x128.size a ≤ S256x256.size a) (x : S16x128.Idx) :
    right acc r h0 h1 x = acc (ix2 ((Rect.unit (s := S256x256) ![r, 128] S16x128.size hb).emb x 0) (merged ((Rect.unit (s := S256x256) ![r, 128] S16x128.size hb).emb x 1))) := by
  obtain ⟨a, j, rfl⟩ : ∃ (a : Fin 16) (j : Fin 128), x = ix2 a j := ⟨x 0, x 1, eq_ix2 x⟩
  refine (right_apply acc r hr h0 h1 a j).trans (congrArg₂ (fun m c => acc (ix2 m (merged c))) (Fin.ext ?_) (Fin.ext ?_))
  · show r + a.val = r + 1 * a.val
    omega
  · show 128 + j.val = 128 + 1 * j.val
    omega

/-- The contents the pieces give together: the sums with their columns merged. -/
theorem pieces_at (acc : FVec Ideal S256x256 .f32) : ∀ p ∈ pieces acc, ∀ x : p.1.shape.Idx,
    p.2 x = acc (ix2 (p.1.emb x 0) (merged (p.1.emb x 1))) := by
  unfold pieces
  refine List.forall_mem_cons.2 ⟨right_piece acc 240 (by decide) _ _ inb_S256x256_S16x128_240_128, ?_⟩
  refine List.forall_mem_cons.2 ⟨left_piece acc 240 (by decide) _ _ inb_S256x256_S16x128_240_0, ?_⟩
  refine List.forall_mem_cons.2 ⟨right_piece acc 224 (by decide) _ _ inb_S256x256_S16x128_224_128, ?_⟩
  refine List.forall_mem_cons.2 ⟨left_piece acc 224 (by decide) _ _ inb_S256x256_S16x128_224_0, ?_⟩
  refine List.forall_mem_cons.2 ⟨right_piece acc 208 (by decide) _ _ inb_S256x256_S16x128_208_128, ?_⟩
  refine List.forall_mem_cons.2 ⟨left_piece acc 208 (by decide) _ _ inb_S256x256_S16x128_208_0, ?_⟩
  refine List.forall_mem_cons.2 ⟨right_piece acc 192 (by decide) _ _ inb_S256x256_S16x128_192_128, ?_⟩
  refine List.forall_mem_cons.2 ⟨left_piece acc 192 (by decide) _ _ inb_S256x256_S16x128_192_0, ?_⟩
  refine List.forall_mem_cons.2 ⟨right_piece acc 176 (by decide) _ _ inb_S256x256_S16x128_176_128, ?_⟩
  refine List.forall_mem_cons.2 ⟨left_piece acc 176 (by decide) _ _ inb_S256x256_S16x128_176_0, ?_⟩
  refine List.forall_mem_cons.2 ⟨right_piece acc 160 (by decide) _ _ inb_S256x256_S16x128_160_128, ?_⟩
  refine List.forall_mem_cons.2 ⟨left_piece acc 160 (by decide) _ _ inb_S256x256_S16x128_160_0, ?_⟩
  refine List.forall_mem_cons.2 ⟨right_piece acc 144 (by decide) _ _ inb_S256x256_S16x128_144_128, ?_⟩
  refine List.forall_mem_cons.2 ⟨left_piece acc 144 (by decide) _ _ inb_S256x256_S16x128_144_0, ?_⟩
  refine List.forall_mem_cons.2 ⟨right_piece acc 128 (by decide) _ _ inb_S256x256_S16x128_128_128, ?_⟩
  refine List.forall_mem_cons.2 ⟨left_piece acc 128 (by decide) _ _ inb_S256x256_S16x128_128_0, ?_⟩
  refine List.forall_mem_cons.2 ⟨right_piece acc 112 (by decide) _ _ inb_S256x256_S16x128_112_128, ?_⟩
  refine List.forall_mem_cons.2 ⟨left_piece acc 112 (by decide) _ _ inb_S256x256_S16x128_112_0, ?_⟩
  refine List.forall_mem_cons.2 ⟨right_piece acc 96 (by decide) _ _ inb_S256x256_S16x128_96_128, ?_⟩
  refine List.forall_mem_cons.2 ⟨left_piece acc 96 (by decide) _ _ inb_S256x256_S16x128_96_0, ?_⟩
  refine List.forall_mem_cons.2 ⟨right_piece acc 80 (by decide) _ _ inb_S256x256_S16x128_80_128, ?_⟩
  refine List.forall_mem_cons.2 ⟨left_piece acc 80 (by decide) _ _ inb_S256x256_S16x128_80_0, ?_⟩
  refine List.forall_mem_cons.2 ⟨right_piece acc 64 (by decide) _ _ inb_S256x256_S16x128_64_128, ?_⟩
  refine List.forall_mem_cons.2 ⟨left_piece acc 64 (by decide) _ _ inb_S256x256_S16x128_64_0, ?_⟩
  refine List.forall_mem_cons.2 ⟨right_piece acc 48 (by decide) _ _ inb_S256x256_S16x128_48_128, ?_⟩
  refine List.forall_mem_cons.2 ⟨left_piece acc 48 (by decide) _ _ inb_S256x256_S16x128_48_0, ?_⟩
  refine List.forall_mem_cons.2 ⟨right_piece acc 32 (by decide) _ _ inb_S256x256_S16x128_32_128, ?_⟩
  refine List.forall_mem_cons.2 ⟨left_piece acc 32 (by decide) _ _ inb_S256x256_S16x128_32_0, ?_⟩
  refine List.forall_mem_cons.2 ⟨right_piece acc 16 (by decide) _ _ inb_S256x256_S16x128_16_128, ?_⟩
  refine List.forall_mem_cons.2 ⟨left_piece acc 16 (by decide) _ _ inb_S256x256_S16x128_16_0, ?_⟩
  refine List.forall_mem_cons.2 ⟨right_piece acc 0 (by decide) _ _ inb_S256x256_S16x128_0_128, ?_⟩
  refine List.forall_mem_cons.2 ⟨left_piece acc 0 (by decide) _ _ inb_S256x256_S16x128_0_0, ?_⟩
  exact List.forall_mem_nil _

end Cert.Proof.Tile

end
-- ==== Proof.Scratches.lean ====
/-
  The two scratch arrays read at an index: the permuted columns of the activations, and the scales divided by sixteen.
-/
module

public import proofs.«01_k».proof.Proof.Lanes
public import Idealize.ShloMosaic.Lib.Pointwise

@[expose] public section

set_option maxRecDepth 16384

noncomputable section

namespace Cert.Proof.Tile

open Idealize.ShloMosaic Idealize.SL.Sem Cert.KernelIdeal Cert.KernelIdeal.Gen

variable {F : FTy → Type} [FloatOps F]

open scoped BigOperators

/-! ## The permuted columns -/

/-- The column that the permutation puts at `q`. -/
def source (q : Fin 256) : Fin 256 := ⟨8 * (q % 32) + q / 32, by omega⟩

/-- The permutation at an index. -/
theorem permutation_apply (k q : Fin 256) : (permutation (F := Ideal)) (ix2 k q) = if k = source q then 1 else 0 := by
  have h : cmpi .eq (iota .tc S256x256 32 [0] iota_S256x256_d0_w32) (addi (muli (broadcast S256x256 8#32) columnRem) columnDiv) (ix2 k q)
      = if k = source q then 1#1 else 0#1 := by
    pointwise
    rw [columnRem_apply, columnDiv_apply]
    have e : IntOp.addi (IntOp.muli 8#32 (BitVec.ofNat 32 (q.val % 32))) (BitVec.ofNat 32 (q.val / 32)) = BitVec.ofNat 32 (source q).val := by
      revert q; decide
    rw [e]
    have e' : ∀ a b : Fin 256, IntOp.cmpi CmpIPredicate.eq (BitVec.ofNat 32 a.val) (BitVec.ofNat 32 b.val) = if a = b then 1#1 else 0#1 := by
      intro a b
      by_cases hab : a = b
      · subst hab; simp [IntOp.cmpi]
      · have hn : BitVec.ofNat 32 a.val ≠ BitVec.ofNat 32 b.val := by
          intro h
          have := congrArg BitVec.toNat h
          simp only [BitVec.toNat_ofNat] at this
          exact hab (Fin.ext (by omega))
        rw [if_neg hab]
        show BitVec.ofBool (_ == _) = _
        rw [beq_eq_false_iff_ne.2 hn]
        rfl
    exact e' k (source q)
  unfold permutation truncf
  dsimp only [Ideal.truncf_def]
  rw [select_of _ _ _ _ _ h]
  have h1 : Ideal.ofBits .f32 1065353216#32 = 1 := by
    simp [Ideal.ofBits, Ideal.ieee]
    rw [← EReal.coe_mul, ← EReal.coe_one]
    norm_num
  have h0 : Ideal.ofBits .f32 0#32 = 0 := by simp [Ideal.ofBits, Ideal.ieee]
  show (if k = source q then Ideal.ofBits .f32 1065353216#32 else Ideal.ofBits .f32 0#32) = _
  rw [h1, h0]

/-- Permuted activations, at an index. -/
theorem permuted_apply (x : FVec Ideal S256x256 .bf16) (m q : Fin 256) :
    permuted x (ix3 (0 : Fin 1) m q) = x (ix2 m (source q)) := by
  pointwise [permuted]
  simp only [permutation_apply, mul_ite, mul_one, mul_zero, Finset.sum_ite_eq', Finset.mem_univ, if_true]

/-! ## The scales -/

/-- A sixteenth of the scales, at an index. -/
theorem sixteenth_apply (h : FVec Ideal S14x256 .bf16) (k : Fin 14) (c : Fin 256) :
    sixteenth h (ix2 k c) = h (ix2 k c) * ((1/16 : ℝ) : EReal) := by
  pointwise [sixteenth]
  have h1 : Ideal.ofBits .f32 1031798784#32 = ((1/16 : ℝ) : EReal) := by
    simp [Ideal.ofBits, Ideal.ieee]
    rw [← EReal.coe_mul]
    norm_num
  rw [h1]

/-- Rows of scales, each in both rows of its pair, at an index. -/
theorem pairRows_apply (v : FVec Ideal S14x128 .f32) (k : Fin 14) (p : Fin 2) (l : Fin 128) :
    pairRows v (ix4 (0 : Fin 1) k p l) = v (ix2 k l) := by
  pointwise [pairRows]
  exact ite_self _

/-- Half of the scales' rows, at an index. -/
theorem halfScales_apply (p : Fin 2) (s : FVec Ideal S28x256 .bf16) (k : Fin 14) (c : Fin 256) :
    rowsOfParity p S14x256 s bitcasts_S28x256_w16_S14x256_w32 (ix2 k c) = s (ix2 ⟨2 * k + p, by omega⟩ c) := by
  pointwise

/-- The even columns of half of the scales' rows, at an index. -/
theorem evenScales_apply (p : Fin 2) (s : FVec Ideal S28x256 .bf16) (k : Fin 14) (l : Fin 128) :
    evenScales (rowsOfParity p S14x256 s bitcasts_S28x256_w16_S14x256_w32) (ix2 k l)
      = s (ix2 ⟨2 * k + p, by omega⟩ ⟨2 * l, by omega⟩) * ((1/16 : ℝ) : EReal) := by
  unfold evenScales
  rw [evenColumns_apply _ _ _ _ _ (fun k c => s (ix2 ⟨2 * k + p, by omega⟩ c) * ((1/16 : ℝ) : EReal))]
  · intro r l
    pointwise
    rw [sixteenth_apply, halfScales_apply]
  · intro r l
    pointwise
    rw [sixteenth_apply, halfScales_apply]

/-- The odd columns of half of the scales' rows, at an index. -/
theorem oddScales_apply (p : Fin 2) (s : FVec Ideal S28x256 .bf16) (k : Fin 14) (l : Fin 128) :
    oddScales (rowsOfParity p S14x256 s bitcasts_S28x256_w16_S14x256_w32) (ix2 k l)
      = s (ix2 ⟨2 * k + p, by omega⟩ ⟨2 * l + 1, by omega⟩) * ((1/16 : ℝ) : EReal) := by
  unfold oddScales
  rw [oddColumns_apply _ _ _ _ _ _ (fun k c => s (ix2 ⟨2 * k + p, by omega⟩ c) * ((1/16 : ℝ) : EReal))]
  · intro r l
    pointwise
    rw [sixteenth_apply, halfScales_apply]
  · intro r l
    pointwise
    rw [sixteenth_apply, halfScales_apply]

/-! ## What the two scratch arrays hold -/

/-- The scale scratch's element at an index: at 0 and 1 the even columns of the rows of either parity, at 2 and 3 the
    odd ones; a sixteenth of each, in both rows of its pair. -/
def scaleAt (s : FVec Ideal S28x256 .bf16) (y : S4x14x2x128.Idx) : EReal :=
  s (ix2 (⟨2 * (y 1).val + (y 0).val % 2, by have h : (y 1).val < 14 := (y 1).isLt; omega⟩ : Fin 28)
    (⟨2 * (y 3).val + (y 0).val / 2, by have h : (y 3).val < 128 := (y 3).isLt; have h' : (y 0).val < 4 := (y 0).isLt; omega⟩ : Fin 256))
    * ((1/16 : ℝ) : EReal)

/-- Each store into the scale scratch writes the elements `scaleAt` names: the even columns. -/
theorem evenScale_piece (s : FVec Ideal S28x256 .bf16) (p : Fin 2) (j : ℕ) (hj : j = p.val)
    (hb : ∀ a, (![j, 0, 0, 0] : Fin 4 → ℕ) a + S1x14x2x128.size a ≤ S4x14x2x128.size a) (x : S1x14x2x128.Idx) :
    pairRows (evenScales (rowsOfParity p S14x256 s bitcasts_S28x256_w16_S14x256_w32)) x
      = scaleAt s ((Rect.unit (s := S4x14x2x128) ![j, 0, 0, 0] S1x14x2x128.size hb).emb x) := by
  obtain ⟨a, k, c, l, rfl⟩ : ∃ (a : Fin 1) (k : Fin 14) (c : Fin 2) (l : Fin 128), x = ix4 a k c l :=
    ⟨x 0, x 1, x 2, x 3, eq_ix4 x⟩
  obtain rfl : a = 0 := Subsingleton.elim _ _
  rw [pairRows_apply, evenScales_apply]
  unfold scaleAt
  congr 3
  · apply Fin.ext
    show 2 * k.val + p.val = 2 * (0 + 1 * k.val) + (j + 1 * 0) % 2
    omega
  · apply Fin.ext
    show 2 * l.val = 2 * (0 + 1 * l.val) + (j + 1 * 0) / 2
    omega

/-- Each store into the scale scratch writes the elements `scaleAt` names: the odd columns. -/
theorem oddScale_piece (s : FVec Ideal S28x256 .bf16) (p : Fin 2) (j : ℕ) (hj : j = 2 + p.val)
    (hb : ∀ a, (![j, 0, 0, 0] : Fin 4 → ℕ) a + S1x14x2x128.size a ≤ S4x14x2x128.size a) (x : S1x14x2x128.Idx) :
    pairRows (oddScales (rowsOfParity p S14x256 s bitcasts_S28x256_w16_S14x256_w32)) x
      = scaleAt s ((Rect.unit (s := S4x14x2x128) ![j, 0, 0, 0] S1x14x2x128.size hb).emb x) := by
  obtain ⟨a, k, c, l, rfl⟩ : ∃ (a : Fin 1) (k : Fin 14) (c : Fin 2) (l : Fin 128), x = ix4 a k c l :=
    ⟨x 0, x 1, x 2, x 3, eq_ix4 x⟩
  obtain rfl : a = 0 := Subsingleton.elim _ _
  rw [pairRows_apply, oddScales_apply]
  unfold scaleAt
  congr 3
  · apply Fin.ext
    show 2 * k.val + p.val = 2 * (0 + 1 * k.val) + (j + 1 * 0) % 2
    omega
  · apply Fin.ext
    show 2 * l.val + 1 = 2 * (0 + 1 * l.val) + (j + 1 * 0) / 2
    omega

/-- The stores into the scale scratch write the elements `scaleAt` names. -/
theorem scalePieces_at (s : FVec Ideal S28x256 .bf16) : ∀ p ∈ scalePieces s, ∀ x : p.1.shape.Idx, p.2 x = scaleAt s (p.1.emb x) := by
  unfold scalePieces
  refine List.forall_mem_cons.2 ⟨oddScale_piece s 1 3 rfl inb_S4x14x2x128_S1x14x2x128_3_0_0_0, ?_⟩
  refine List.forall_mem_cons.2 ⟨evenScale_piece s 1 1 rfl inb_S4x14x2x128_S1x14x2x128_1_0_0_0, ?_⟩
  refine List.forall_mem_cons.2 ⟨oddScale_piece s 0 2 rfl inb_S4x14x2x128_S1x14x2x128_2_0_0_0, ?_⟩
  refine List.forall_mem_cons.2 ⟨evenScale_piece s 0 0 rfl inb_S4x14x2x128_S1x14x2x128_0_0_0_0, ?_⟩
  exact List.forall_mem_nil _

/-- The scratch of permuted columns at an index. -/
def columnAt (x : Fin 14 → FVec Ideal S256x256 .bf16) (y : S14x256x256.Idx) : EReal :=
  x (y 0) (ix2 (y 1 : Fin 256) (source (y 2)))

/-- Each store into the scratch of permuted columns writes the elements `columnAt` names. -/
theorem column_piece (x : Fin 14 → FVec Ideal S256x256 .bf16) (k : ℕ) (hk : k < 14)
    (hb : ∀ a, (![k, 0, 0] : Fin 3 → ℕ) a + S1x256x256.size a ≤ S14x256x256.size a) (y : S1x256x256.Idx) :
    permuted (x ⟨k, hk⟩) y = columnAt x ((Rect.unit (s := S14x256x256) ![k, 0, 0] S1x256x256.size hb).emb y) := by
  obtain ⟨a, m, q, rfl⟩ : ∃ (a : Fin 1) (m : Fin 256) (q : Fin 256), y = ix3 a m q := ⟨y 0, y 1, y 2, eq_ix3 y⟩
  obtain rfl : a = 0 := Subsingleton.elim _ _
  rw [permuted_apply]
  refine congrArg₂ (fun (k : Fin 14) (i : S256x256.Idx) => x k i) (Fin.ext ?_) (congrArg₂ (fun (m q : Fin 256) => (ix2 m q : S256x256.Idx)) (Fin.ext ?_) (congrArg source (Fin.ext ?_)))
  · show k = k + 1 * 0
    omega
  · show m.val = 0 + 1 * m.val
    omega
  · show q.val = 0 + 1 * q.val
    omega

/-- The stores into the scratch of permuted columns write the elements `columnAt` names. -/
theorem columnPieces_at (x : Fin 14 → FVec Ideal S256x256 .bf16) :
    ∀ p ∈ columnPieces x, ∀ y : p.1.shape.Idx, p.2 y = columnAt x (p.1.emb y) := by
  unfold columnPieces
  refine List.forall_mem_cons.2 ⟨column_piece x 13 (by decide) inb_S14x256x256_S1x256x256_13_0_0, ?_⟩
  refine List.forall_mem_cons.2 ⟨column_piece x 12 (by decide) inb_S14x256x256_S1x256x256_12_0_0, ?_⟩
  refine List.forall_mem_cons.2 ⟨column_piece x 11 (by decide) inb_S14x256x256_S1x256x256_11_0_0, ?_⟩
  refine List.forall_mem_cons.2 ⟨column_piece x 10 (by decide) inb_S14x256x256_S1x256x256_10_0_0, ?_⟩
  refine List.forall_mem_cons.2 ⟨column_piece x 9 (by decide) inb_S14x256x256_S1x256x256_9_0_0, ?_⟩
  refine List.forall_mem_cons.2 ⟨column_piece x 8 (by decide) inb_S14x256x256_S1x256x256_8_0_0, ?_⟩
  refine List.forall_mem_cons.2 ⟨column_piece x 7 (by decide) inb_S14x256x256_S1x256x256_7_0_0, ?_⟩
  refine List.forall_mem_cons.2 ⟨column_piece x 6 (by decide) inb_S14x256x256_S1x256x256_6_0_0, ?_⟩
  refine List.forall_mem_cons.2 ⟨column_piece x 5 (by decide) inb_S14x256x256_S1x256x256_5_0_0, ?_⟩
  refine List.forall_mem_cons.2 ⟨column_piece x 4 (by decide) inb_S14x256x256_S1x256x256_4_0_0, ?_⟩
  refine List.forall_mem_cons.2 ⟨column_piece x 3 (by decide) inb_S14x256x256_S1x256x256_3_0_0, ?_⟩
  refine List.forall_mem_cons.2 ⟨column_piece x 2 (by decide) inb_S14x256x256_S1x256x256_2_0_0, ?_⟩
  refine List.forall_mem_cons.2 ⟨column_piece x 1 (by decide) inb_S14x256x256_S1x256x256_1_0_0, ?_⟩
  refine List.forall_mem_cons.2 ⟨column_piece x 0 (by decide) inb_S14x256x256_S1x256x256_0_0_0, ?_⟩
  exact List.forall_mem_nil _

end Cert.Proof.Tile

end
-- ==== Proof.Bytes.lean ====
/-
  The kernel's moves of bytes read at an index: the weights' four words transposed, their nibbles, the positions.
-/
module

public import proofs.«01_k».proof.Proof.Lanes
public import Idealize.ShloMosaic.Lib.Pointwise
public import Idealize.ShloMosaic.Lib.BitcastFour

@[expose] public section

set_option maxRecDepth 16384

noncomputable section

namespace Cert.Proof.Tile

open Idealize.ShloMosaic Idealize.SL.Sem Cert.KernelIdeal Cert.KernelIdeal.Gen

variable {F : FTy → Type} [FloatOps F]

/-! ## Bytes of words -/

/-- The byte `k` of a word. -/
def byteOf (v : BitVec 32) (k : ℕ) : BitVec 8 := v.extractLsb' (8 * k) 8

/-- A byte of a word moved up. -/
theorem byteOf_shli (v : BitVec 32) (n k : ℕ) (h : k + n < 4) : byteOf (v <<< (8 * n)) (k + n) = byteOf v k := by
  apply BitVec.eq_of_getLsbD_eq
  intro i hi
  have e : 8 * (k + n) + i - 8 * n = 8 * k + i := by omega
  simp [byteOf, BitVec.getLsbD_extractLsb', BitVec.getLsbD_shiftLeft, hi, e]
  omega

/-- A byte of a word moved down. -/
theorem byteOf_shrui (v : BitVec 32) (n k : ℕ) : byteOf (v >>> (8 * n)) k = byteOf v (k + n) := by
  apply BitVec.eq_of_getLsbD_eq
  intro i hi
  have e : 8 * n + (8 * k + i) = 8 * (k + n) + i := by omega
  simp [byteOf, BitVec.getLsbD_extractLsb', BitVec.getLsbD_ushiftRight, hi, e]

/-- Words read as bytes: row `r` is byte `r % 4` of the word in row `r / 4`. -/
theorem bytes_apply {m n l : ℕ} (v : (⟨2, ![m, l]⟩ : Shape).Idx → BitVec 32) (h : (⟨2, ![m, l]⟩ : Shape).Bitcasts 32 ⟨2, ![n, l]⟩ 8)
    (r : Fin n) (c : Fin l) (a : Fin m) (ha : a.val = r.val / 4) :
    bitcast ⟨2, ![n, l]⟩ 8 v h (ix2 r c) = byteOf (v (ix2 a c)) (r.val % 4) := by
  apply BitVec.eq_of_getLsbD_eq
  intro i hi
  rw [bitcast_getLsbD v h _ i hi (by decide)]
  have e0 : ((⟨2, ![n, l]⟩ : Shape).row (ix2 r c) * 8 + i) / 32 = a.val := by
    show (r.val * 8 + i) / 32 = a.val; omega
  have e1 : ((⟨2, ![n, l]⟩ : Shape).row (ix2 r c) * 8 + i) % 32 = 8 * (r.val % 4) + i := by
    show (r.val * 8 + i) % 32 = 8 * (r.val % 4) + i; omega
  rw [e1]
  simp only [byteOf, BitVec.getLsbD_extractLsb', hi, decide_true, Bool.true_and]
  congr 2
  funext x
  match x with
  | ⟨0, _⟩ => exact Fin.ext ((h.srcIdx_row _ _ _ ⟨0, Nat.zero_lt_two⟩ rfl).trans e0)
  | ⟨1, _⟩ => exact Fin.ext (h.srcIdx_other _ _ _ ⟨1, Nat.one_lt_two⟩ (by show ¬ 1 + 2 = 2; omega))

/-- Bytes read as words: the bytes of the word in row `a` are the rows `4 a`, …, `4 a + 3`. -/
theorem words_apply {m n l : ℕ} (x : (⟨2, ![n, l]⟩ : Shape).Idx → BitVec 8) (h : (⟨2, ![n, l]⟩ : Shape).Bitcasts 8 ⟨2, ![m, l]⟩ 32)
    (a : Fin m) (c : Fin l) (k : ℕ) (hk : k < 4) (r : Fin n) (hr : r.val = 4 * a.val + k) :
    byteOf (bitcast ⟨2, ![m, l]⟩ 32 x h (ix2 a c)) k = x (ix2 r c) := by
  apply BitVec.eq_of_getLsbD_eq
  intro i hi
  simp only [byteOf, BitVec.getLsbD_extractLsb', hi, decide_true, Bool.true_and]
  rw [ix2_eq_valueIdx, bitcast_8_32_getLsbD_ix2 x h a c (8 * k + i) (by omega) r (by omega), ← ix2_eq_valueIdx]
  congr 1; omega

/-! ## Four words transposed -/

/-- The bytes at which a word is not zero, at an index. -/
theorem byteMask_apply (k : BitVec 32) (r : Fin 32) (l : Fin 128) :
    byteMask k (ix2 r l) = if byteOf k (r.val % 4) ≠ 0#8 then 1#1 else 0#1 := by
  have h : byteMask k (ix2 r l) = IntOp.cmpi .ne (bitcast S32x128 8 (broadcast S8x128 k) bitcasts_S8x128_w32_S32x128_w8 (ix2 r l)) 0#8 := rfl
  rw [h, bytes_apply (broadcast S8x128 k) bitcasts_S8x128_w32_S32x128_w8 r l ⟨r / 4, by omega⟩ rfl]
  show IntOp.cmpi .ne (byteOf k (r.val % 4)) 0#8 = _
  generalize byteOf k (r.val % 4) = b
  revert b; decide

/-- A mixed word's bytes: under the mask the first word's, elsewhere the second's moved up. -/
theorem mixLow_byte (m : ℕ) (k s : BitVec 32) (a b : IVec S8x128 32) (c : Fin 8) (l : Fin 128) (hm : m < 4) :
    byteOf (mixLow (byteMask k) s a b (ix2 c l)) m
      = if byteOf k m ≠ 0#8 then byteOf (a (ix2 c l)) m else byteOf (IntOp.shli .vector (b (ix2 c l)) s) m := by
  unfold mixLow
  rw [words_apply _ bitcasts_S32x128_w8_S8x128_w32 c l m hm ⟨4 * c + m, by omega⟩ rfl,
    select_of _ _ _ _ _ (byteMask_apply k _ l),
    bytes_apply a bitcasts_S8x128_w32_S32x128_w8 _ l c (by simp only; omega),
    bytes_apply (shli b _) bitcasts_S8x128_w32_S32x128_w8 _ l c (by simp only; omega)]
  have e : (4 * c.val + m) % 4 = m := by omega
  simp only [e]
  rfl

/-- A mixed word's bytes: under the mask the first word's moved down, elsewhere the second's. -/
theorem mixHigh_byte (m : ℕ) (k s : BitVec 32) (a b : IVec S8x128 32) (c : Fin 8) (l : Fin 128) (hm : m < 4) :
    byteOf (mixHigh (byteMask k) s a b (ix2 c l)) m
      = if byteOf k m ≠ 0#8 then byteOf (IntOp.shrui .vector (a (ix2 c l)) s) m else byteOf (b (ix2 c l)) m := by
  unfold mixHigh
  rw [words_apply _ bitcasts_S32x128_w8_S8x128_w32 c l m hm ⟨4 * c + m, by omega⟩ rfl,
    select_of _ _ _ _ _ (byteMask_apply k _ l),
    bytes_apply (shrui a _) bitcasts_S8x128_w32_S32x128_w8 _ l c (by simp only; omega),
    bytes_apply b bitcasts_S8x128_w32_S32x128_w8 _ l c (by simp only; omega)]
  have e : (4 * c.val + m) % 4 = m := by omega
  simp only [e]
  rfl

/-- Pairs of bytes: the first word's even bytes, the second's even bytes at the odd places. -/
theorem mixLow8_byte (m : ℕ) (hm : m < 4) (a b : IVec S8x128 32) (c : Fin 8) (l : Fin 128) :
    byteOf (mixLow (byteMask 16711935#32) 8#32 a b (ix2 c l)) m = if m % 2 = 0 then byteOf (a (ix2 c l)) m else byteOf (b (ix2 c l)) (m - 1) := by
  rw [mixLow_byte m _ _ a b c l hm]
  have hk : byteOf 16711935#32 m ≠ 0#8 ↔ m % 2 = 0 := by interval_cases m <;> decide
  simp only [hk]
  refine ite_congr rfl (fun _ => rfl) fun h => ?_
  have e := byteOf_shli (b (ix2 c l)) 1 (m - 1) (by omega)
  rwa [show m - 1 + 1 = m by omega] at e

/-- Pairs of bytes: the first word's odd bytes at the even places, the second's odd bytes. -/
theorem mixHigh8_byte (m : ℕ) (hm : m < 4) (a b : IVec S8x128 32) (c : Fin 8) (l : Fin 128) :
    byteOf (mixHigh (byteMask 16711935#32) 8#32 a b (ix2 c l)) m = if m % 2 = 0 then byteOf (a (ix2 c l)) (m + 1) else byteOf (b (ix2 c l)) m := by
  rw [mixHigh_byte m _ _ a b c l hm]
  have hk : byteOf 16711935#32 m ≠ 0#8 ↔ m % 2 = 0 := by interval_cases m <;> decide
  simp only [hk]
  exact ite_congr rfl (fun _ => byteOf_shrui (a (ix2 c l)) 1 m) fun _ => rfl

/-- Pairs of halves: the first word's lower half, then the second's lower half. -/
theorem mixLow16_byte (m : ℕ) (hm : m < 4) (a b : IVec S8x128 32) (c : Fin 8) (l : Fin 128) :
    byteOf (mixLow (byteMask 65535#32) 16#32 a b (ix2 c l)) m = if m < 2 then byteOf (a (ix2 c l)) m else byteOf (b (ix2 c l)) (m - 2) := by
  rw [mixLow_byte m _ _ a b c l hm]
  have hk : byteOf 65535#32 m ≠ 0#8 ↔ m < 2 := by interval_cases m <;> decide
  simp only [hk]
  refine ite_congr rfl (fun _ => rfl) fun h => ?_
  have e := byteOf_shli (b (ix2 c l)) 2 (m - 2) (by omega)
  rwa [show m - 2 + 2 = m by omega] at e

/-- Pairs of halves: the first word's upper half, then the second's upper half. -/
theorem mixHigh16_byte (m : ℕ) (hm : m < 4) (a b : IVec S8x128 32) (c : Fin 8) (l : Fin 128) :
    byteOf (mixHigh (byteMask 65535#32) 16#32 a b (ix2 c l)) m = if m < 2 then byteOf (a (ix2 c l)) (m + 2) else byteOf (b (ix2 c l)) m := by
  rw [mixHigh_byte m _ _ a b c l hm]
  have hk : byteOf 65535#32 m ≠ 0#8 ↔ m < 2 := by interval_cases m <;> decide
  simp only [hk]
  exact ite_congr rfl (fun _ => byteOf_shrui (a (ix2 c l)) 2 m) fun _ => rfl

/-- The words of a block, at an index and a byte: the block's row, its nibbles' top bits turned. -/
theorem word_byte (w : IVec S128x128 8) (b : Fin 4) (h : S8x4x128.Slices ![0, b.val, 0] S8x1x128) (m : ℕ) (hm : m < 4) (c : Fin 8) (l : Fin 128) :
    byteOf (word w ![0, b.val, 0] h (ix2 c l)) m = w (ix2 ⟨16 * c + 4 * b + m, by omega⟩ l) ^^^ 0x88#8 := by
  have e : word w ![0, b.val, 0] h (ix2 c l)
      = bitcast S32x128 32 w bitcasts_S128x128_w8_S32x128_w32 (ix2 ⟨c * 4 + b, by omega⟩ l) ^^^ 2290649224#32 := by
    pointwise [word]
    rfl
  have ex : ∀ v : BitVec 32, byteOf (v ^^^ 2290649224#32) m = byteOf v m ^^^ 0x88#8 := by
    intro v
    have hc : byteOf 2290649224#32 m = 0x88#8 := by interval_cases m <;> decide
    rw [← hc]
    apply BitVec.eq_of_getLsbD_eq
    intro i hi
    simp [byteOf, BitVec.getLsbD_extractLsb', hi]
  rw [e, ex, words_apply w bitcasts_S128x128_w8_S32x128_w32 ⟨c * 4 + b, by omega⟩ l m hm ⟨16 * c + 4 * b + m, by omega⟩ (by simp only; omega)]

/-- Byte 0 of a block's four words: row `r` is the block's row `4 r + 0`. -/
theorem byte0_apply (w : IVec S128x128 8) (c : Fin 8) (l : Fin 128) (m : ℕ) (hm : m < 4) :
    byteOf (byte0 w (ix2 c l)) m = w (ix2 ⟨4 * (4 * c + m) + 0, by omega⟩ l) ^^^ 0x88#8 := by
  unfold byte0
  rw [mixLow16_byte m hm]
  interval_cases m
  · rw [if_pos (by decide), mixLow8_byte _ (by decide), if_pos (by decide)]
    exact (word_byte w 0 slices_S8x4x128_o0_0_0_S8x1x128 0 (by decide) c l).trans (congrArg (fun r : Fin 128 => w (ix2 r l) ^^^ 0x88#8) (Fin.ext (by simp only; omega)))
  · rw [if_pos (by decide), mixLow8_byte _ (by decide), if_neg (by decide)]
    exact (word_byte w 1 slices_S8x4x128_o0_1_0_S8x1x128 0 (by decide) c l).trans (congrArg (fun r : Fin 128 => w (ix2 r l) ^^^ 0x88#8) (Fin.ext (by simp only; omega)))
  · rw [if_neg (by decide), mixLow8_byte _ (by decide), if_pos (by decide)]
    exact (word_byte w 2 slices_S8x4x128_o0_2_0_S8x1x128 0 (by decide) c l).trans (congrArg (fun r : Fin 128 => w (ix2 r l) ^^^ 0x88#8) (Fin.ext (by simp only; omega)))
  · rw [if_neg (by decide), mixLow8_byte _ (by decide), if_neg (by decide)]
    exact (word_byte w 3 slices_S8x4x128_o0_3_0_S8x1x128 0 (by decide) c l).trans (congrArg (fun r : Fin 128 => w (ix2 r l) ^^^ 0x88#8) (Fin.ext (by simp only; omega)))

/-- Byte 1 of a block's four words: row `r` is the block's row `4 r + 1`. -/
theorem byte1_apply (w : IVec S128x128 8) (c : Fin 8) (l : Fin 128) (m : ℕ) (hm : m < 4) :
    byteOf (byte1 w (ix2 c l)) m = w (ix2 ⟨4 * (4 * c + m) + 1, by omega⟩ l) ^^^ 0x88#8 := by
  unfold byte1
  rw [mixLow16_byte m hm]
  interval_cases m
  · rw [if_pos (by decide), mixHigh8_byte _ (by decide), if_pos (by decide)]
    exact (word_byte w 0 slices_S8x4x128_o0_0_0_S8x1x128 1 (by decide) c l).trans (congrArg (fun r : Fin 128 => w (ix2 r l) ^^^ 0x88#8) (Fin.ext (by simp only; omega)))
  · rw [if_pos (by decide), mixHigh8_byte _ (by decide), if_neg (by decide)]
    exact (word_byte w 1 slices_S8x4x128_o0_1_0_S8x1x128 1 (by decide) c l).trans (congrArg (fun r : Fin 128 => w (ix2 r l) ^^^ 0x88#8) (Fin.ext (by simp only; omega)))
  · rw [if_neg (by decide), mixHigh8_byte _ (by decide), if_pos (by decide)]
    exact (word_byte w 2 slices_S8x4x128_o0_2_0_S8x1x128 1 (by decide) c l).trans (congrArg (fun r : Fin 128 => w (ix2 r l) ^^^ 0x88#8) (Fin.ext (by simp only; omega)))
  · rw [if_neg (by decide), mixHigh8_byte _ (by decide), if_neg (by decide)]
    exact (word_byte w 3 slices_S8x4x128_o0_3_0_S8x1x128 1 (by decide) c l).trans (congrArg (fun r : Fin 128 => w (ix2 r l) ^^^ 0x88#8) (Fin.ext (by simp only; omega)))

/-- Byte 2 of a block's four words: row `r` is the block's row `4 r + 2`. -/
theorem byte2_apply (w : IVec S128x128 8) (c : Fin 8) (l : Fin 128) (m : ℕ) (hm : m < 4) :
    byteOf (byte2 w (ix2 c l)) m = w (ix2 ⟨4 * (4 * c + m) + 2, by omega⟩ l) ^^^ 0x88#8 := by
  unfold byte2
  rw [mixHigh16_byte m hm]
  interval_cases m
  · rw [if_pos (by decide), mixLow8_byte _ (by decide), if_pos (by decide)]
    exact (word_byte w 0 slices_S8x4x128_o0_0_0_S8x1x128 2 (by decide) c l).trans (congrArg (fun r : Fin 128 => w (ix2 r l) ^^^ 0x88#8) (Fin.ext (by simp only; omega)))
  · rw [if_pos (by decide), mixLow8_byte _ (by decide), if_neg (by decide)]
    exact (word_byte w 1 slices_S8x4x128_o0_1_0_S8x1x128 2 (by decide) c l).trans (congrArg (fun r : Fin 128 => w (ix2 r l) ^^^ 0x88#8) (Fin.ext (by simp only; omega)))
  · rw [if_neg (by decide), mixLow8_byte _ (by decide), if_pos (by decide)]
    exact (word_byte w 2 slices_S8x4x128_o0_2_0_S8x1x128 2 (by decide) c l).trans (congrArg (fun r : Fin 128 => w (ix2 r l) ^^^ 0x88#8) (Fin.ext (by simp only; omega)))
  · rw [if_neg (by decide), mixLow8_byte _ (by decide), if_neg (by decide)]
    exact (word_byte w 3 slices_S8x4x128_o0_3_0_S8x1x128 2 (by decide) c l).trans (congrArg (fun r : Fin 128 => w (ix2 r l) ^^^ 0x88#8) (Fin.ext (by simp only; omega)))

/-- Byte 3 of a block's four words: row `r` is the block's row `4 r + 3`. -/
theorem byte3_apply (w : IVec S128x128 8) (c : Fin 8) (l : Fin 128) (m : ℕ) (hm : m < 4) :
    byteOf (byte3 w (ix2 c l)) m = w (ix2 ⟨4 * (4 * c + m) + 3, by omega⟩ l) ^^^ 0x88#8 := by
  unfold byte3
  rw [mixHigh16_byte m hm]
  interval_cases m
  · rw [if_pos (by decide), mixHigh8_byte _ (by decide), if_pos (by decide)]
    exact (word_byte w 0 slices_S8x4x128_o0_0_0_S8x1x128 3 (by decide) c l).trans (congrArg (fun r : Fin 128 => w (ix2 r l) ^^^ 0x88#8) (Fin.ext (by simp only; omega)))
  · rw [if_pos (by decide), mixHigh8_byte _ (by decide), if_neg (by decide)]
    exact (word_byte w 1 slices_S8x4x128_o0_1_0_S8x1x128 3 (by decide) c l).trans (congrArg (fun r : Fin 128 => w (ix2 r l) ^^^ 0x88#8) (Fin.ext (by simp only; omega)))
  · rw [if_neg (by decide), mixHigh8_byte _ (by decide), if_pos (by decide)]
    exact (word_byte w 2 slices_S8x4x128_o0_2_0_S8x1x128 3 (by decide) c l).trans (congrArg (fun r : Fin 128 => w (ix2 r l) ^^^ 0x88#8) (Fin.ext (by simp only; omega)))
  · rw [if_neg (by decide), mixHigh8_byte _ (by decide), if_neg (by decide)]
    exact (word_byte w 3 slices_S8x4x128_o0_3_0_S8x1x128 3 (by decide) c l).trans (congrArg (fun r : Fin 128 => w (ix2 r l) ^^^ 0x88#8) (Fin.ext (by simp only; omega)))

end Cert.Proof.Tile

end
-- ==== Proof.Weights.lean ====
/-
  The kernel's weights of one tile read at an index.
-/
module

public import proofs.«01_k».proof.Proof.Bytes
public import Idealize.ShloMosaic.Lib.Pointwise

@[expose] public section

set_option maxRecDepth 16384

noncomputable section

namespace Cert.Proof.Tile

open Idealize.ShloMosaic Idealize.SL.Sem Cert.KernelIdeal Cert.KernelIdeal.Gen

variable {F : FTy → Type} [FloatOps F]

/-- A word's low nibbles moved to the top of their bytes. -/
theorem byteOf_low (v : BitVec 32) (k : ℕ) (hk : k < 4) :
    byteOf (v <<< 4 &&& 4042322160#32) k = (byteOf v k <<< 4) &&& 0xF0#8 := by
  apply BitVec.eq_of_getLsbD_eq
  intro i hi
  interval_cases k <;> interval_cases i <;> simp [byteOf, BitVec.getLsbD_extractLsb']

/-- A word's high nibbles left at the top of their bytes. -/
theorem byteOf_high (v : BitVec 32) (k : ℕ) (hk : k < 4) : byteOf (v &&& 4042322160#32) k = byteOf v k &&& 0xF0#8 := by
  apply BitVec.eq_of_getLsbD_eq
  intro i hi
  interval_cases k <;> interval_cases i <;> simp [byteOf, BitVec.getLsbD_extractLsb']

/-- The low nibbles of words, at an index. -/
theorem lowNibbles_apply (v : IVec S8x128 32) (r : Fin 32) (l : Fin 128) :
    lowNibbles v (ix2 r l) = (byteOf (v (ix2 ⟨r / 4, by omega⟩ l)) (r % 4) <<< 4) &&& 0xF0#8 := by
  unfold lowNibbles
  rw [bytes_apply _ bitcasts_S8x128_w32_S32x128_w8 r l ⟨r / 4, by omega⟩ rfl, ← byteOf_low _ _ (by omega)]
  rfl

/-- The high nibbles of words, at an index. -/
theorem highNibbles_apply (v : IVec S8x128 32) (r : Fin 32) (l : Fin 128) :
    highNibbles v (ix2 r l) = byteOf (v (ix2 ⟨r / 4, by omega⟩ l)) (r % 4) &&& 0xF0#8 := by
  unfold highNibbles
  rw [bytes_apply _ bitcasts_S8x128_w32_S32x128_w8 r l ⟨r / 4, by omega⟩ rfl, ← byteOf_high _ _ (by omega)]
  rfl

/-- The even columns of the positions, at an index. -/
theorem evenIdx_apply (x : IVec S32x256 8) (r : Fin 32) (l : Fin 128) :
    evenIdx x (ix2 r l) = x (ix2 r ⟨2 * l, by omega⟩) := by
  unfold evenIdx
  rw [bytes_apply _ bitcasts_S8x128_w32_S32x128_w8 r l ⟨r / 4, by omega⟩ rfl,
    evenColumns_apply _ _ _ _ _ (fun a c => idxWords x (ix2 a c))]
  · exact words_apply x bitcasts_S32x256_w8_S8x256_w32 _ _ _ (by omega) r (by simp only; omega)
  · intro r l
    pointwise
  · intro r l
    pointwise

/-- The odd columns of the positions, at an index. -/
theorem oddIdx_apply (x : IVec S32x256 8) (r : Fin 32) (l : Fin 128) :
    oddIdx x (ix2 r l) = x (ix2 r ⟨2 * l + 1, by omega⟩) := by
  unfold oddIdx
  rw [bytes_apply _ bitcasts_S8x128_w32_S32x128_w8 r l ⟨r / 4, by omega⟩ rfl,
    oddColumns_apply _ _ _ _ _ _ (fun a c => idxWords x (ix2 a c))]
  · exact words_apply x bitcasts_S32x256_w8_S8x256_w32 _ _ _ (by omega) r (by simp only; omega)
  · intro r l
    pointwise
  · intro r l
    pointwise

/-- A packed row of scales over sixteen rows, at an index. -/
theorem scaleRows_apply (raw : FVec Ideal S1x1x2x128 .bf16) (r : Fin 16) (l : Fin 128) :
    scaleRows raw (ix2 r l) = raw (ix4 (0 : Fin 1) (0 : Fin 1) (⟨r % 2, by omega⟩ : Fin 2) l) := by
  have e : ∀ p : Fin 2, p.val = r.val % 2 → raw (ix4 (0 : Fin 1) (0 : Fin 1) p l)
      = raw (ix4 (0 : Fin 1) (0 : Fin 1) (⟨r % 2, by omega⟩ : Fin 2) l) := by
    intro p hp
    exact congrArg (fun p : Fin 2 => raw (ix4 (0 : Fin 1) (0 : Fin 1) p l)) (Fin.ext hp)
  pointwise [scaleRows]
  by_cases h : r.val % 2 = 0
  · rw [if_pos h, ← e 0 h.symm]
    simp only [dite_eq_ite, ite_self]
  · rw [if_neg h, ← e 1 (by simp; omega)]
    simp only [dite_eq_ite, ite_self]

/-- The scales of a tile's rows, at an index. -/
theorem scale_apply (raw0 raw1 : FVec Ideal S1x1x2x128 .bf16) (r : Fin 32) (l : Fin 128) :
    scale raw0 raw1 (ix2 r l) = (if r.val < 16 then raw0 else raw1) (ix4 (0 : Fin 1) (0 : Fin 1) (⟨r % 2, by omega⟩ : Fin 2) l) := by
  pointwise [scale]
  by_cases h : r.val < 16
  · rw [dif_pos h, if_pos h]
    exact scaleRows_apply raw0 ⟨r, h⟩ l
  · rw [dif_neg h, if_neg h, scaleRows_apply]
    exact congrArg (fun p : Fin 2 => raw1 (ix4 (0 : Fin 1) (0 : Fin 1) p l)) (Fin.ext (by simp only; omega))

/-- The two bits from `k` on. -/
def field (k : ℕ) (b : BitVec 8) : ℕ := ((b >>> k) &&& 3#8).toNat

/-- The value the positions of a byte put at place `p` of a group of four: the first, the second, else zero. -/
def pick {e : Type} (k : ℕ) (p : ℕ) (b : BitVec 8) (z v0 v1 : e) : e :=
  if field k b = p then v0 else if field (k + 2) b = p then v1 else z

/-- The eight kinds of rows, by the two bits' places and the row's place in its group. -/
def rows (n : Fin 8) (i v0 v1 v2 v3 : IVec S32x128 8) : IVec S32x128 8 :=
  (![expand0 (bit i 1#8) (bit i 2#8) v0, expand1 (bit i 1#8) (bit i 8#8) v0 v1, expand1 (bit i 2#8) (bit i 4#8) v0 v1,
    expand3 (bit i 4#8) (bit i 8#8) v1, expand0 (bit i 16#8) (bit i 32#8) v2, expand1 (bit i 16#8) (bit i 128#8) v2 v3,
    expand1 (bit i 32#8) (bit i 64#8) v2 v3, expand3 (bit i 64#8) (bit i 128#8) v3] : Fin 8 → IVec S32x128 8) n

/-- The rows of one column class of a tile's weights, at an index. -/
theorem expand_rows (sc : FVec Ideal S32x128 .bf16) (i : IVec S32x128 8) (v0 v1 v2 v3 : IVec S32x128 8) (n : Fin 8) (r : Fin 32) (l : Fin 128) :
    expand sc i v0 v1 v2 v3 (ix2 ⟨32 * n + r, by omega⟩ l)
      = (((rows n i v0 v1 v2 v3 (ix2 r l)).toInt : ℝ) : EReal) * sc (ix2 r l) := by
  match n with
  | 0 =>
    pointwise [expand]
    rfl
  | 1 =>
    pointwise [expand]
    rfl
  | 2 =>
    pointwise [expand]
    repeat rw [dif_neg (by omega)]
    try rw [dif_pos (by omega)]
    exact congrArg (fun a : Fin 32 => (((rows 2 i v0 v1 v2 v3 (ix2 a l)).toInt : ℝ) : EReal) * sc (ix2 a l)) (Fin.ext (by simp only; omega))
  | 3 =>
    pointwise [expand]
    repeat rw [dif_neg (by omega)]
    try rw [dif_pos (by omega)]
    exact congrArg (fun a : Fin 32 => (((rows 3 i v0 v1 v2 v3 (ix2 a l)).toInt : ℝ) : EReal) * sc (ix2 a l)) (Fin.ext (by simp only; omega))
  | 4 =>
    pointwise [expand]
    repeat rw [dif_neg (by omega)]
    try rw [dif_pos (by omega)]
    exact congrArg (fun a : Fin 32 => (((rows 4 i v0 v1 v2 v3 (ix2 a l)).toInt : ℝ) : EReal) * sc (ix2 a l)) (Fin.ext (by simp only; omega))
  | 5 =>
    pointwise [expand]
    repeat rw [dif_neg (by omega)]
    try rw [dif_pos (by omega)]
    exact congrArg (fun a : Fin 32 => (((rows 5 i v0 v1 v2 v3 (ix2 a l)).toInt : ℝ) : EReal) * sc (ix2 a l)) (Fin.ext (by simp only; omega))
  | 6 =>
    pointwise [expand]
    repeat rw [dif_neg (by omega)]
    try rw [dif_pos (by omega)]
    exact congrArg (fun a : Fin 32 => (((rows 6 i v0 v1 v2 v3 (ix2 a l)).toInt : ℝ) : EReal) * sc (ix2 a l)) (Fin.ext (by simp only; omega))
  | 7 =>
    pointwise [expand]
    repeat rw [dif_neg (by omega)]
    try rw [dif_pos (by omega)]
    exact congrArg (fun a : Fin 32 => (((rows 7 i v0 v1 v2 v3 (ix2 a l)).toInt : ℝ) : EReal) * sc (ix2 a l)) (Fin.ext (by simp only; omega))

/-- A function of a choice is the choice of its values. -/
theorem select_map {d e : Type} (g : d → e) (c : BitVec 1) (x y : d) : Scalar.select c (g x) (g y) = g (Scalar.select c x y) := by
  unfold Scalar.select
  split_ifs <;> rfl

/-- Two bits that are not both zero leave zero, else the first value: the group's first row. -/
theorem pick_first (k : ℕ) (hk : k = 0 ∨ k = 4) (m0 m1 : BitVec 8) (h0 : m0 = 1#8 <<< k) (h1 : m1 = 2#8 <<< k) (b v0 v1 : BitVec 8)
    (ho : field k b < field (k + 2) b) :
    Scalar.select (IntOp.ori (IntOp.cmpi .ne (b &&& m0) 0#8) (IntOp.cmpi .ne (b &&& m1) 0#8)) 0#8 v0 = pick k 0 b 0#8 v0 v1 := by
  have key : ∀ b : BitVec 8, field k b < field (k + 2) b →
      Scalar.select (IntOp.ori (IntOp.cmpi .ne (b &&& m0) 0#8) (IntOp.cmpi .ne (b &&& m1) 0#8)) (0 : Fin 3) 1 = pick k 0 b 0 1 2 := by
    subst h0 h1
    rcases hk with rfl | rfl <;> decide
  have e := congrArg (![0#8, v0, v1] : Fin 3 → BitVec 8) (key b ho)
  simp only [pick, apply_ite (![0#8, v0, v1] : Fin 3 → BitVec 8), ← select_map (![0#8, v0, v1] : Fin 3 → BitVec 8)] at e
  exact e

/-- One bit chooses the first value, another zero, else the second: the group's middle rows. -/
theorem pick_middle (k p : ℕ) (hk : k = 0 ∨ k = 4) (hp : p = 1 ∨ p = 2) (m0 m1 : BitVec 8) (h0 : m0 = BitVec.ofNat 8 p <<< k)
    (h1 : m1 = BitVec.ofNat 8 (3 - p) <<< (k + 2)) (b v0 v1 : BitVec 8) (ho : field k b < field (k + 2) b) :
    Scalar.select (IntOp.cmpi .ne (b &&& m0) 0#8) v0 (Scalar.select (IntOp.cmpi .ne (b &&& m1) 0#8) 0#8 v1) = pick k p b 0#8 v0 v1 := by
  have key : ∀ b : BitVec 8, field k b < field (k + 2) b →
      Scalar.select (IntOp.cmpi .ne (b &&& m0) 0#8) (1 : Fin 3) (Scalar.select (IntOp.cmpi .ne (b &&& m1) 0#8) 0 2) = pick k p b 0 1 2 := by
    subst h0 h1
    rcases hk with rfl | rfl <;> rcases hp with rfl | rfl <;> decide
  have e := congrArg (![0#8, v0, v1] : Fin 3 → BitVec 8) (key b ho)
  simp only [pick, apply_ite (![0#8, v0, v1] : Fin 3 → BitVec 8), ← select_map (![0#8, v0, v1] : Fin 3 → BitVec 8)] at e
  exact e

/-- Two bits both set leave the second value, else zero: the group's last row. -/
theorem pick_last (k : ℕ) (hk : k = 0 ∨ k = 4) (m0 m1 : BitVec 8) (h0 : m0 = 1#8 <<< (k + 2)) (h1 : m1 = 2#8 <<< (k + 2)) (b v0 v1 : BitVec 8)
    (ho : field k b < field (k + 2) b) :
    Scalar.select (IntOp.andi (IntOp.cmpi .ne (b &&& m0) 0#8) (IntOp.cmpi .ne (b &&& m1) 0#8)) v1 0#8 = pick k 3 b 0#8 v0 v1 := by
  have key : ∀ b : BitVec 8, field k b < field (k + 2) b →
      Scalar.select (IntOp.andi (IntOp.cmpi .ne (b &&& m0) 0#8) (IntOp.cmpi .ne (b &&& m1) 0#8)) (2 : Fin 3) 0 = pick k 3 b 0 1 2 := by
    subst h0 h1
    rcases hk with rfl | rfl <;> decide
  have e := congrArg (![0#8, v0, v1] : Fin 3 → BitVec 8) (key b ho)
  simp only [pick, apply_ite (![0#8, v0, v1] : Fin 3 → BitVec 8), ← select_map (![0#8, v0, v1] : Fin 3 → BitVec 8)] at e
  exact e

/-- The eight kinds of rows hold what the positions put there, where the first position is below the second. -/
theorem rows_apply (h : Fin 2) (p : Fin 4) (i : IVec S32x128 8) (v : Fin 4 → IVec S32x128 8) (y : S32x128.Idx)
    (ho : field (4 * h) (i y) < field (4 * h + 2) (i y)) :
    rows ⟨4 * h + p, by omega⟩ i (v 0) (v 1) (v 2) (v 3) y
      = pick (4 * h) p (i y) 0#8 (v ⟨2 * h, by omega⟩ y) (v ⟨2 * h + 1, by omega⟩ y) := by
  match h, p with
  | 0, 0 => exact pick_first 0 (.inl rfl) _ _ rfl rfl _ _ _ ho
  | 0, 1 => exact pick_middle 0 1 (.inl rfl) (.inl rfl) _ _ rfl rfl _ _ _ ho
  | 0, 2 => exact pick_middle 0 2 (.inl rfl) (.inr rfl) _ _ rfl rfl _ _ _ ho
  | 0, 3 => exact pick_last 0 (.inl rfl) _ _ rfl rfl _ _ _ ho
  | 1, 0 => exact pick_first 4 (.inr rfl) _ _ rfl rfl _ _ _ ho
  | 1, 1 => exact pick_middle 4 1 (.inr rfl) (.inl rfl) _ _ rfl rfl _ _ _ ho
  | 1, 2 => exact pick_middle 4 2 (.inr rfl) (.inr rfl) _ _ rfl rfl _ _ _ ho
  | 1, 3 => exact pick_last 4 (.inr rfl) _ _ rfl rfl _ _ _ ho

/-- A nibble of a byte (the low one for `c = 0`), its top bit turned, at the top of a byte. -/
def topNibble (c : Fin 2) (b : BitVec 8) : BitVec 8 := if c = 0 then (b ^^^ 0x88#8) <<< 4 &&& 0xF0#8 else (b ^^^ 0x88#8) &&& 0xF0#8

/-- The low nibbles of a word whose bytes are a block's rows, at an index. -/
theorem low_row (v : IVec S8x128 32) (w : IVec S128x128 8) (j : ℕ) (hj : j < 4)
    (hv : ∀ (c : Fin 8) (l : Fin 128) (m : ℕ) (hm : m < 4), byteOf (v (ix2 c l)) m = w (ix2 ⟨4 * (4 * c + m) + j, by omega⟩ l) ^^^ 0x88#8)
    (r : Fin 32) (l : Fin 128) : lowNibbles v (ix2 r l) = topNibble 0 (w (ix2 ⟨4 * r + j, by omega⟩ l)) := by
  have e : (⟨4 * (4 * (r.val / 4) + r.val % 4) + j, by omega⟩ : Fin 128) = ⟨4 * r + j, by omega⟩ := Fin.ext (by simp only; omega)
  rw [lowNibbles_apply, hv _ _ _ (by omega), ← e]
  rfl

/-- The high nibbles of a word whose bytes are a block's rows, at an index. -/
theorem high_row (v : IVec S8x128 32) (w : IVec S128x128 8) (j : ℕ) (hj : j < 4)
    (hv : ∀ (c : Fin 8) (l : Fin 128) (m : ℕ) (hm : m < 4), byteOf (v (ix2 c l)) m = w (ix2 ⟨4 * (4 * c + m) + j, by omega⟩ l) ^^^ 0x88#8)
    (r : Fin 32) (l : Fin 128) : highNibbles v (ix2 r l) = topNibble 1 (w (ix2 ⟨4 * r + j, by omega⟩ l)) := by
  have e : (⟨4 * (4 * (r.val / 4) + r.val % 4) + j, by omega⟩ : Fin 128) = ⟨4 * r + j, by omega⟩ := Fin.ext (by simp only; omega)
  rw [highNibbles_apply, hv _ _ _ (by omega), ← e]
  rfl

attribute [local irreducible] lowNibbles highNibbles byte0 byte1 byte2 byte3 expand

/-- The low nibbles of the four transposed words, at an index. -/
theorem low_apply (w : IVec S128x128 8) (j : Fin 4) (r : Fin 32) (l : Fin 128) :
    (![lowNibbles (byte0 w), lowNibbles (byte1 w), lowNibbles (byte2 w), lowNibbles (byte3 w)] : Fin 4 → IVec S32x128 8) j (ix2 r l)
      = topNibble 0 (w (ix2 ⟨4 * r + j, by omega⟩ l)) := by
  match j with
  | 0 => exact low_row (byte0 w) w 0 (by decide) (byte0_apply w) r l
  | 1 => exact low_row (byte1 w) w 1 (by decide) (byte1_apply w) r l
  | 2 => exact low_row (byte2 w) w 2 (by decide) (byte2_apply w) r l
  | 3 => exact low_row (byte3 w) w 3 (by decide) (byte3_apply w) r l

/-- The high nibbles of the four transposed words, at an index. -/
theorem high_apply (w : IVec S128x128 8) (j : Fin 4) (r : Fin 32) (l : Fin 128) :
    (![highNibbles (byte0 w), highNibbles (byte1 w), highNibbles (byte2 w), highNibbles (byte3 w)] : Fin 4 → IVec S32x128 8) j (ix2 r l)
      = topNibble 1 (w (ix2 ⟨4 * r + j, by omega⟩ l)) := by
  match j with
  | 0 => exact high_row (byte0 w) w 0 (by decide) (byte0_apply w) r l
  | 1 => exact high_row (byte1 w) w 1 (by decide) (byte1_apply w) r l
  | 2 => exact high_row (byte2 w) w 2 (by decide) (byte2_apply w) r l
  | 3 => exact high_row (byte3 w) w 3 (by decide) (byte3_apply w) r l

/-- One column class of a tile's weights, at an index, from the readings of its operands. -/
theorem expand_apply (sc : FVec Ideal S32x128 .bf16) (i : IVec S32x128 8) (v : Fin 4 → IVec S32x128 8)
    (h : Fin 2) (p : Fin 4) (r : Fin 32) (l : Fin 128) (b v0 v1 : BitVec 8) (s : EReal) (hi : i (ix2 r l) = b)
    (h0 : v ⟨2 * h, by omega⟩ (ix2 r l) = v0) (h1 : v ⟨2 * h + 1, by omega⟩ (ix2 r l) = v1) (hs : sc (ix2 r l) = s)
    (ho : field (4 * h) b < field (4 * h + 2) b) :
    expand sc i (v 0) (v 1) (v 2) (v 3) (ix2 ⟨32 * (4 * h + p) + r, by omega⟩ l)
      = (((pick (4 * h) p b 0#8 v0 v1).toInt : ℝ) : EReal) * s := by
  subst hi h0 h1 hs
  refine (expand_rows sc i (v 0) (v 1) (v 2) (v 3) ⟨4 * h + p, by omega⟩ r l).trans ?_
  rw [rows_apply h p i v (ix2 r l) ho]

/-- The weights' left half is the even columns' class. -/
theorem weights_left (w : IVec S128x128 8) (x : IVec S32x256 8) (raw : Fin 4 → FVec Ideal S1x1x2x128 .bf16) (q : Fin 256) (l : Fin 128) (c : Fin 256)
    (hc : c.val = l.val) :
    weights w x (raw 0) (raw 1) (raw 2) (raw 3) (ix2 q c) = expand (scale (raw 0) (raw 1)) (evenIdx x) (lowNibbles (byte0 w))
      (lowNibbles (byte1 w)) (lowNibbles (byte2 w)) (lowNibbles (byte3 w)) (ix2 q l) := by
  have hb : l.val < 256 := by omega
  obtain rfl : c = ⟨l, hb⟩ := Fin.ext hc
  unfold weights
  pointwise

/-- The weights' right half is the odd columns' class. -/
theorem weights_right (w : IVec S128x128 8) (x : IVec S32x256 8) (raw : Fin 4 → FVec Ideal S1x1x2x128 .bf16) (q : Fin 256) (l : Fin 128) (c : Fin 256)
    (hc : c.val = 128 + l.val) :
    weights w x (raw 0) (raw 1) (raw 2) (raw 3) (ix2 q c) = expand (scale (raw 2) (raw 3)) (oddIdx x) (highNibbles (byte0 w))
      (highNibbles (byte1 w)) (highNibbles (byte2 w)) (highNibbles (byte3 w)) (ix2 q l) := by
  have hb : 128 + l.val < 256 := by omega
  obtain rfl : c = ⟨128 + l, hb⟩ := Fin.ext hc
  unfold weights
  pointwise

/-- The weights of a tile, at an index: row `32 (4 h + p) + r` is place `p` of the group of four that half `h` of the
    position byte in row `r` describes; column `128 c + l` is the block's column `2 l + c`. -/
theorem weights_apply (w : IVec S128x128 8) (x : IVec S32x256 8) (raw : Fin 4 → FVec Ideal S1x1x2x128 .bf16)
    (h : Fin 2) (p : Fin 4) (r : Fin 32) (c : Fin 2) (l : Fin 128)
    (ho : field (4 * h) (x (ix2 r ⟨2 * l + c, by omega⟩)) < field (4 * h + 2) (x (ix2 r ⟨2 * l + c, by omega⟩))) :
    weights w x (raw 0) (raw 1) (raw 2) (raw 3) (ix2 ⟨32 * (4 * h + p) + r, by omega⟩ ⟨128 * c + l, by omega⟩)
      = (((pick (4 * h) p (x (ix2 r ⟨2 * l + c, by omega⟩)) 0#8 (topNibble c (w (ix2 ⟨4 * r + 2 * h, by omega⟩ l)))
            (topNibble c (w (ix2 ⟨4 * r + (2 * h + 1), by omega⟩ l)))).toInt : ℝ) : EReal)
        * raw ⟨2 * c + r / 16, by omega⟩ (ix4 (0 : Fin 1) (0 : Fin 1) (⟨r % 2, by omega⟩ : Fin 2) l) := by
  have hs : ∀ (a : ℕ) (ha : a < 2), scale (raw ⟨2 * a, by omega⟩) (raw ⟨2 * a + 1, by omega⟩) (ix2 r l)
      = raw ⟨2 * a + r / 16, by omega⟩ (ix4 (0 : Fin 1) (0 : Fin 1) (⟨r % 2, by omega⟩ : Fin 2) l) := by
    intro a ha
    rw [scale_apply]
    by_cases hr : r.val < 16
    · rw [if_pos hr]
      exact congrArg (fun k : Fin 4 => raw k (ix4 (0 : Fin 1) (0 : Fin 1) (⟨r % 2, by omega⟩ : Fin 2) l)) (Fin.ext (by simp only; omega))
    · rw [if_neg hr]
      exact congrArg (fun k : Fin 4 => raw k (ix4 (0 : Fin 1) (0 : Fin 1) (⟨r % 2, by omega⟩ : Fin 2) l)) (Fin.ext (by simp only; omega))
  match c, ho with
  | 0, ho =>
    exact (weights_left w x raw _ l _ (by simp only; omega)).trans
      (expand_apply _ _ (![lowNibbles (byte0 w), lowNibbles (byte1 w), lowNibbles (byte2 w), lowNibbles (byte3 w)]) h p r l _ _ _ _
        (evenIdx_apply x r l) (low_apply w _ r l) (low_apply w _ r l) (hs 0 (by decide)) ho)
  | 1, ho =>
    exact (weights_right w x raw _ l _ (by simp only; omega)).trans
      (expand_apply _ _ (![highNibbles (byte0 w), highNibbles (byte1 w), highNibbles (byte2 w), highNibbles (byte3 w)]) h p r l _ _ _ _
        (oddIdx_apply x r l) (high_apply w _ r l) (high_apply w _ r l) (hs 1 (by decide)) ho)

end Cert.Proof.Tile

end
-- ==== Proof.Block.lean ====
/-
  What the body loads, and the block it stores, as functions of the blocks of its operands.
-/
module

public import proofs.«01_k».proof.Proof.Runs
public import proofs.«01_k».proof.Proof.Scratches
public import proofs.«01_k».proof.Proof.Weights
public import Idealize.ShloMosaic.Lib.Pipeline.Value
public import Idealize.ShloMosaic.Lib.Pointwise

@[expose] public section

set_option maxRecDepth 16384

noncomputable section

namespace Cert.Proof.Tile

open Idealize.ShloMosaic Idealize.SL.Sem Cert.KernelIdeal Cert.KernelIdeal.Gen Cert.Proof.Runs

variable {F : FTy → Type} [FloatOps F]

open scoped BigOperators

/-! ## The loads -/

/-- Columns `256 k` to `256 k + 255` of the activations. -/
def xTile (x0 : Vec Ideal S256x3584 .bf16) (k : Fin 14) : FVec Ideal S256x256 .bf16 :=
  fun y => x0 (ix2 (y 0 : Fin 256) (⟨256 * k + (y 1).val, by have h : (y 1).val < 256 := (y 1).isLt; omega⟩ : Fin 3584))

/-- Rows `128 k` to `128 k + 127` of a block of weight bytes. -/
def wTile (x1 : Vec Ideal S1792x128 .i8) (k : Fin 14) : IVec S128x128 8 :=
  fun y => x1 (ix2 (⟨128 * k + (y 0).val, by have h : (y 0).val < 128 := (y 0).isLt; omega⟩ : Fin 1792) (y 1 : Fin 128))

/-- Rows `32 k` to `32 k + 31` of a block of position bytes. -/
def iTile (x2 : Vec Ideal S448x256 .i8) (k : Fin 14) : IVec S32x256 8 :=
  fun y => x2 (ix2 (⟨32 * k + (y 0).val, by have h : (y 0).val < 32 := (y 0).isLt; omega⟩ : Fin 448) (y 1 : Fin 256))

/-- One packed row of the scale scratch. -/
def rawTile (x3 : Vec Ideal S28x256 .bf16) (j : Fin 4) (k : Fin 14) : FVec Ideal S1x1x2x128 .bf16 :=
  fun y => scaleAt x3 (ix4 j k (y 2 : Fin 2) (y 3 : Fin 128))

/-- One tile of the scratch of permuted columns. -/
def xpTile (x : Fin 14 → FVec Ideal S256x256 .bf16) (k : Fin 14) : FVec Ideal S1x256x256 .bf16 :=
  fun y => columnAt x (ix3 k (y 1 : Fin 256) (y 2 : Fin 256))

/-- The activations' load. -/
theorem loadX_eq (arg1 : Memref sig .tc .vmem S256x3584 .bf16) (harg1 : arg1.IsWhole) (x0 : Vec Ideal S256x3584 .bf16) (k : Fin 14) :
    loadX arg1 harg1 x0 k = xTile x0 k := by
  unfold loadX
  rw [View.readAt_eq_ld, harg1.read_unread]
  funext y
  refine congrArg x0 (funext fun a => ?_)
  match a with
  | 0 => exact Fin.ext (by show 0 + 1 * (y 0).val = (y 0).val; omega)
  | 1 => exact Fin.ext (by show 256 * k.val + 1 * (y 1).val = 256 * k.val + (y 1).val; omega)

/-- The weight bytes' load. -/
theorem loadW_eq (arg2 : Memref sig .tc .vmem S1792x128 .i8) (harg2 : arg2.IsWhole) (x1 : Vec Ideal S1792x128 .i8) (k : Fin 14) :
    loadW (F := Ideal) arg2 harg2 x1 k = wTile x1 k := by
  unfold loadW
  rw [View.readAt_eq_ld, harg2.read_unread]
  funext y
  refine congrArg x1 (funext fun a => ?_)
  match a with
  | 0 => exact Fin.ext (by show 128 * k.val + 1 * (y 0).val = 128 * k.val + (y 0).val; omega)
  | 1 => exact Fin.ext (by show 0 + 1 * (y 1).val = (y 1).val; omega)

/-- The position bytes' load. -/
theorem loadI_eq (arg3 : Memref sig .tc .vmem S448x256 .i8) (harg3 : arg3.IsWhole) (x2 : Vec Ideal S448x256 .i8) (k : Fin 14) :
    loadI (F := Ideal) arg3 harg3 x2 k = iTile x2 k := by
  unfold loadI
  rw [View.readAt_eq_ld, harg3.read_unread]
  funext y
  refine congrArg x2 (funext fun a => ?_)
  match a with
  | 0 => exact Fin.ext (by show 32 * k.val + 1 * (y 0).val = 32 * k.val + (y 0).val; omega)
  | 1 => exact Fin.ext (by show 0 + 1 * (y 1).val = (y 1).val; omega)

/-- The scales' load. -/
theorem loadS_eq (arg4 : Memref sig .tc .vmem S28x256 .bf16) (harg4 : arg4.IsWhole) (x3 : Vec Ideal S28x256 .bf16) :
    loadS arg4 harg4 x3 = x3 := by
  unfold loadS
  rw [View.readAt_eq_ld, harg4.read_unread]
  funext y
  refine congrArg x3 (funext fun a => ?_)
  match a with
  | 0 => exact Fin.ext (by show 0 + 1 * (y 0).val = (y 0).val; omega)
  | 1 => exact Fin.ext (by show 0 + 1 * (y 1).val = (y 1).val; omega)

/-- What the scale scratch holds once written. -/
theorem canon_scalePieces (s : FVec Ideal S28x256 .bf16) : View.canon (scalePieces s) = scaleAt s := by
  funext y
  exact View.canon_apply_of_pieces (scaleAt s) _ (scalePieces_at s) y
    (View.cover_of_tiledL (scalePieces s) S1x14x2x128.size (by sl_kernel_rfl) y)

/-- The scale scratch's load. -/
theorem loadRaw_eq (arg7 : Memref sig .tc .vmem S4x14x2x128 .bf16) (x3 : FVec Ideal S28x256 .bf16) (j : Fin 4) (k : Fin 14) :
    loadRaw arg7 x3 j k = rawTile x3 j k := by
  unfold loadRaw
  rw [View.readCov_eq_canon', canon_scalePieces x3]
  funext y
  refine congrArg (scaleAt x3) (funext fun a => ?_)
  have h0 : (y 0).val < 1 := (y 0).isLt
  have h1 : (y 1).val < 1 := (y 1).isLt
  match a with
  | 0 => exact Fin.ext (by show j.val + 1 * (y 0).val = j.val; omega)
  | 1 => exact Fin.ext (by show k.val + 1 * (y 1).val = k.val; omega)
  | 2 => exact Fin.ext (by show 0 + 1 * (y 2).val = (y 2).val; omega)
  | 3 => exact Fin.ext (by show 0 + 1 * (y 3).val = (y 3).val; omega)

/-- What the scratch of permuted columns holds once written. -/
theorem canon_columnPieces (x : Fin 14 → FVec Ideal S256x256 .bf16) : View.canon (columnPieces x) = columnAt x := by
  funext y
  exact View.canon_apply_of_pieces (columnAt x) _ (columnPieces_at x) y
    (View.cover_of_tiledL (columnPieces x) S1x256x256.size (by sl_kernel_rfl) y)

/-- The permuted columns' load from the scratch as just written. -/
theorem loadXp0_eq (arg6 : Memref sig .tc .vmem S14x256x256 .bf16) (x : Fin 14 → FVec Ideal S256x256 .bf16) (k : Fin 14) :
    loadXp0 arg6 x k = xpTile x k := by
  unfold loadXp0
  rw [View.readCov_eq_canon', canon_columnPieces]
  funext y
  refine congrArg (columnAt x) (funext fun a => ?_)
  have h0 : (y 0).val < 1 := (y 0).isLt
  match a with
  | 0 => exact Fin.ext (by show k.val + 1 * (y 0).val = k.val; omega)
  | 1 => exact Fin.ext (by show 0 + 1 * (y 1).val = (y 1).val; omega)
  | 2 => exact Fin.ext (by show 0 + 1 * (y 2).val = (y 2).val; omega)

/-- The permuted columns' load from the scratch as carried from an earlier grid point. -/
theorem loadXp_eq (arg6 : Memref sig .tc .vmem S14x256x256 .bf16) (harg6 : arg6.IsWhole) (x : Fin 14 → FVec Ideal S256x256 .bf16) (k : Fin 14) :
    loadXp (F := Ideal) arg6 harg6 (columnAt x) k = xpTile x k := by
  unfold loadXp
  rw [View.readAt_eq_ld, harg6.read_unread]
  funext y
  refine congrArg (columnAt x) (funext fun a => ?_)
  have h0 : (y 0).val < 1 := (y 0).isLt
  match a with
  | 0 => exact Fin.ext (by show k.val + 1 * (y 0).val = k.val; omega)
  | 1 => exact Fin.ext (by show 0 + 1 * (y 1).val = (y 1).val; omega)
  | 2 => exact Fin.ext (by show 0 + 1 * (y 2).val = (y 2).val; omega)

/-! ## The block -/

/-- The block of the result that the blocks of the operands give. -/
def blockAt (x0 : Vec Ideal S256x3584 .bf16) (x1 : Vec Ideal S1792x128 .i8) (x2 : Vec Ideal S448x256 .i8) (x3 : Vec Ideal S28x256 .bf16) :
    Vec Ideal S256x256 .bf16 :=
  fun y => blockSum (xpTile (xTile x0)) (wTile x1) (iTile x2) (rawTile x3) (ix2 (y 0 : Fin 256) (merged (y 1)))

/-- What the pieces leave, as a block. -/
theorem canon_pieces (acc : FVec Ideal S256x256 .f32) :
    View.canon (pieces acc) = fun y : S256x256.Idx => (acc (ix2 (y 0 : Fin 256) (merged (y 1))) : Elt Ideal .bf16) := by
  funext y
  exact View.canon_apply_of_pieces (fun y : S256x256.Idx => (acc (ix2 (y 0 : Fin 256) (merged (y 1))) : Elt Ideal .bf16)) _ (pieces_at acc) y
    (View.cover_of_tiledL (pieces acc) S16x128.size (by sl_kernel_rfl) y)

/-- Fourteen blocks added, at an index. -/
theorem sum14_apply (p : Fin 14 → FVec Ideal S256x256 .f32) (y : S256x256.Idx) : sum14 p y = ∑ k : Fin 14, p k y := by
  simp only [Fin.sum_univ_castSucc, Finset.univ_eq_empty, Finset.sum_empty, zero_add]
  rfl

/-- An element of a block's sums. -/
theorem blockSum_apply (xp : Fin 14 → FVec Ideal S1x256x256 .bf16) (w : Fin 14 → IVec S128x128 8) (x : Fin 14 → IVec S32x256 8)
    (raw : Fin 4 → Fin 14 → FVec Ideal S1x1x2x128 .bf16) (m c : Fin 256) :
    blockSum xp w x raw (ix2 m c) = ∑ kt : Fin 14, ∑ q : Fin 256, xp kt (ix3 (0 : Fin 1) m q)
      * weights (w kt) (x kt) (raw 0 kt) (raw 1 kt) (raw 2 kt) (raw 3 kt) (ix2 q c) := by
  have hp : ∀ kt : Fin 14, product (xp kt) (weights (w kt) (x kt) (raw 0 kt) (raw 1 kt) (raw 2 kt) (raw 3 kt)) (ix2 m c)
      = ∑ q : Fin 256, xp kt (ix3 (0 : Fin 1) m q)
        * weights (w kt) (x kt) (raw 0 kt) (raw 1 kt) (raw 2 kt) (raw 3 kt) (ix2 q c) := by
    intro kt
    generalize weights (w kt) (x kt) (raw 0 kt) (raw 1 kt) (raw 2 kt) (raw 3 kt) = W
    pointwise [product]
  unfold blockSum
  rw [sum14_apply]
  exact Finset.sum_congr rfl fun kt _ => hp kt

/-! ## The two runs' stores -/

/-- What the first grid point leaves in the result's block. -/
theorem out_A (c : Dev nD) (i : grid0.Coords) (arg1 : Memref sig .tc .vmem S256x3584 .bf16) (harg1 : arg1.IsWhole)
    (arg2 : Memref sig .tc .vmem S1792x128 .i8) (harg2 : arg2.IsWhole) (arg3 : Memref sig .tc .vmem S448x256 .i8) (harg3 : arg3.IsWhole)
    (arg4 : Memref sig .tc .vmem S28x256 .bf16) (harg4 : arg4.IsWhole) (arg5 : Memref sig .tc .vmem S256x256 .bf16) (harg5 : arg5.IsWhole)
    (arg6 : Memref sig .tc .vmem S14x256x256 .bf16) (harg6 : arg6.IsWhole) (arg7 : Memref sig .tc .vmem S4x14x2x128 .bf16) (harg7 : arg7.IsWhole)
    (hc0 : cond0_0 i) (x0 : Vec Ideal S256x3584 .bf16) (x1 : Vec Ideal S1792x128 .i8) (x2 : Vec Ideal S448x256 .i8) (x3 : Vec Ideal S28x256 .bf16) :
    out0_A_4 c i arg1 harg1 arg2 harg2 arg3 harg3 arg4 harg4 arg5 harg5 arg6 harg6 arg7 harg7 hc0 x0 x1 x2 x3 = blockAt x0 x1 x2 x3 := by
  unfold out0_A_4
  rw [View.read_writes_junk_eq_canon, stores_A, canon_pieces, loadS_eq, funext (loadX_eq arg1 harg1 x0), funext (loadXp0_eq arg6 _),
    funext (loadW_eq arg2 harg2 x1), funext (loadI_eq arg3 harg3 x2), funext fun j => funext (loadRaw_eq arg7 x3 j)]
  rfl

/-- What the first grid point leaves in the scratch of permuted columns. -/
theorem sout_A (c : Dev nD) (i : grid0.Coords) (arg1 : Memref sig .tc .vmem S256x3584 .bf16) (harg1 : arg1.IsWhole)
    (arg2 : Memref sig .tc .vmem S1792x128 .i8) (harg2 : arg2.IsWhole) (arg3 : Memref sig .tc .vmem S448x256 .i8) (harg3 : arg3.IsWhole)
    (arg4 : Memref sig .tc .vmem S28x256 .bf16) (harg4 : arg4.IsWhole) (arg5 : Memref sig .tc .vmem S256x256 .bf16) (harg5 : arg5.IsWhole)
    (arg6 : Memref sig .tc .vmem S14x256x256 .bf16) (harg6 : arg6.IsWhole) (arg7 : Memref sig .tc .vmem S4x14x2x128 .bf16) (harg7 : arg7.IsWhole)
    (hc0 : cond0_0 i) (x0 : Vec Ideal S256x3584 .bf16) (x1 : Vec Ideal S1792x128 .i8) (x2 : Vec Ideal S448x256 .i8) (x3 : Vec Ideal S28x256 .bf16) :
    sout0_A_0 c i arg1 harg1 arg2 harg2 arg3 harg3 arg4 harg4 arg5 harg5 arg6 harg6 arg7 harg7 hc0 x0 x1 x2 x3 = columnAt (xTile x0) := by
  unfold sout0_A_0
  rw [View.read_writes_junk_eq_canon, stores_A0, canon_columnPieces, funext (loadX_eq arg1 harg1 x0)]

/-- What a later grid point leaves in the result's block. -/
theorem out_B (c : Dev nD) (i : grid0.Coords) (arg1 : Memref sig .tc .vmem S256x3584 .bf16) (harg1 : arg1.IsWhole)
    (arg2 : Memref sig .tc .vmem S1792x128 .i8) (harg2 : arg2.IsWhole) (arg3 : Memref sig .tc .vmem S448x256 .i8) (harg3 : arg3.IsWhole)
    (arg4 : Memref sig .tc .vmem S28x256 .bf16) (harg4 : arg4.IsWhole) (arg5 : Memref sig .tc .vmem S256x256 .bf16) (harg5 : arg5.IsWhole)
    (arg6 : Memref sig .tc .vmem S14x256x256 .bf16) (harg6 : arg6.IsWhole) (arg7 : Memref sig .tc .vmem S4x14x2x128 .bf16) (harg7 : arg7.IsWhole)
    (hc0 : ¬cond0_0 i) (x0 : Vec Ideal S256x3584 .bf16) (x1 : Vec Ideal S1792x128 .i8) (x2 : Vec Ideal S448x256 .i8) (x3 : Vec Ideal S28x256 .bf16) :
    out0_B_4 c i arg1 harg1 arg2 harg2 arg3 harg3 arg4 harg4 arg5 harg5 arg6 harg6 arg7 harg7 hc0 x0 x1 x2 x3 (columnAt (xTile x0))
      = blockAt x0 x1 x2 x3 := by
  unfold out0_B_4
  rw [View.read_writes_junk_eq_canon, stores_B, canon_pieces, loadS_eq, funext (loadXp_eq arg6 harg6 _),
    funext (loadW_eq arg2 harg2 x1), funext (loadI_eq arg3 harg3 x2), funext fun j => funext (loadRaw_eq arg7 x3 j)]
  rfl

end Cert.Proof.Tile

end
-- ==== Proof.Formula.lean ====
/-
  The element of the result both programs compute, as a sum of products of elements of the arguments.
-/
module

public import proofs.«01_k».proof.Proof.Weights
public import Idealize.ShloMosaic.Lib.Pointwise

@[expose] public section

set_option maxRecDepth 16384

noncomputable section

namespace Cert.Proof.Tile

open Idealize.ShloMosaic Idealize.SL.Sem Cert.KernelIdeal

open scoped BigOperators

/-- The signed weight a byte holds in its low (`c = 0`) or high (`c = 1`) four bits: the four bits less eight. -/
def quant (c : Fin 2) (b : BitVec 8) : ℤ := ((if c = 0 then b &&& 15#8 else b >>> 4).toNat : ℤ) - 8

/-- The top four bits with their sign bit flipped are, as a signed byte, sixteen times the weight. -/
theorem topNibble_toInt (c : Fin 2) (b : BitVec 8) : (topNibble c b).toInt = 16 * quant c b := by
  unfold topNibble quant
  revert c b
  decide +kernel

/-- A choice among weights times sixteen, times a scale over sixteen, is the choice among weights times the scale. -/
theorem pick_mul (k p : ℕ) (x : BitVec 8) (c : Fin 2) (b0 b1 : BitVec 8) (s : EReal) :
    (((pick k p x 0#8 (topNibble c b0) (topNibble c b1)).toInt : ℝ) : EReal) * (s * ((1/16 : ℝ) : EReal))
      = pick k p x 0 (((quant c b0 : ℝ) : EReal) * s) (((quant c b1 : ℝ) : EReal) * s) := by
  have key : ∀ b : BitVec 8, (((topNibble c b).toInt : ℝ) : EReal) * (s * ((1/16 : ℝ) : EReal)) = ((quant c b : ℝ) : EReal) * s := by
    intro b
    have e : (((topNibble c b).toInt : ℝ) : EReal) = ((quant c b : ℝ) : EReal) * ((16 : ℝ) : EReal) := by
      rw [topNibble_toInt, ← EReal.coe_mul]
      congr 1
      push_cast
      ring
    rw [e, mul_mul_mul_comm, ← EReal.coe_mul]
    norm_num
  unfold pick
  split
  · exact key b0
  · split
    · exact key b1
    · simp

/-- The four arguments: activations, weight bytes, position bytes and scales. -/
structure Operands where
  /-- The activations. -/
  x : FVec Ideal S256x1x3584 .bf16
  /-- The weight bytes. -/
  w : IVec S1792x9472 8
  /-- The position bytes. -/
  i : IVec S448x18944 8
  /-- The scales. -/
  s : FVec Ideal S28x18944 .bf16

/-- In every position byte the first of the two positions of each half is below the second. -/
def Operands.Ordered (A : Operands) : Prop :=
  ∀ (t : Fin 448) (j : Fin 18944) (h : Fin 2), field (4 * h) (A.i (ix2 t j)) < field (4 * h + 2) (A.i (ix2 t j))

/-- The weight at row `8 t + 4 h + p` and column `j`, scaled. -/
def Operands.weight (A : Operands) (j : Fin 18944) (h : Fin 2) (p : Fin 4) (t : Fin 448) : EReal :=
  pick (4 * h) p (A.i (ix2 t j)) 0
    (((quant ⟨j % 2, by omega⟩ (A.w (ix2 (⟨4 * t + 2 * h, by omega⟩ : Fin 1792) (⟨j / 2, by omega⟩ : Fin 9472))) : ℝ) : EReal)
      * A.s (ix2 (⟨t / 16, by omega⟩ : Fin 28) j))
    (((quant ⟨j % 2, by omega⟩ (A.w (ix2 (⟨4 * t + (2 * h + 1), by omega⟩ : Fin 1792) (⟨j / 2, by omega⟩ : Fin 9472))) : ℝ) : EReal)
      * A.s (ix2 (⟨t / 16, by omega⟩ : Fin 28) j))

/-- One product of the sum. -/
def Operands.term (A : Operands) (r : Fin 256) (j : Fin 18944) (h : Fin 2) (p : Fin 4) (t : Fin 448) : EReal :=
  A.x (ix3 r (0 : Fin 1) (⟨8 * t + 4 * h + p, by omega⟩ : Fin 3584)) * A.weight j h p t

/-- The element of the result at row `r` and column `j`. -/
def Operands.result (A : Operands) (r : Fin 256) (j : Fin 18944) : EReal :=
  ∑ h : Fin 2, ∑ p : Fin 4, ∑ t : Fin 448, A.term r j h p t

/-- A sum over `a b` indices as a sum over `a` groups of `b`. -/
theorem sum_groups (a b n : ℕ) (hn : a * b = n) (f : Fin n → EReal) :
    ∑ q : Fin n, f q = ∑ i : Fin a, ∑ j : Fin b,
      f ⟨b * i + j, by
        subst hn
        calc b * i.val + j.val < b * i.val + b := by omega
          _ = b * (i.val + 1) := by ring
          _ ≤ b * a := Nat.mul_le_mul_left _ i.isLt
          _ = a * b := Nat.mul_comm _ _⟩ := by
  subst hn
  rw [← finProdFinEquiv.sum_comp, Fintype.sum_prod_type]
  refine Finset.sum_congr rfl fun i _ => Finset.sum_congr rfl fun j _ => congrArg f (Fin.ext ?_)
  rw [finProdFinEquiv_apply_val]
  exact Nat.add_comm _ _

/-- The sum over fourteen tiles of 256 rows, with the rows of a tile in the order of halves, positions and groups, is the
    sum over halves, positions and groups of the whole. -/
theorem sum_tiles (f : Fin 14 → Fin 256 → EReal) (g : Fin 2 → Fin 4 → Fin 448 → EReal)
    (e : ∀ (k : Fin 14) (h : Fin 2) (p : Fin 4) (r : Fin 32), f k ⟨32 * (4 * h + p) + r, by omega⟩ = g h p ⟨32 * k + r, by omega⟩) :
    ∑ k : Fin 14, ∑ q : Fin 256, f k q = ∑ h : Fin 2, ∑ p : Fin 4, ∑ t : Fin 448, g h p t := by
  have e1 : ∀ k : Fin 14, ∑ q : Fin 256, f k q = ∑ h : Fin 2, ∑ p : Fin 4, ∑ r : Fin 32, g h p ⟨32 * k + r, by omega⟩ := by
    intro k
    rw [sum_groups 8 32 256 rfl, sum_groups 2 4 8 rfl]
    exact Finset.sum_congr rfl fun h _ => Finset.sum_congr rfl fun p _ => Finset.sum_congr rfl fun r _ => e k h p r
  have e2 : ∀ (h : Fin 2) (p : Fin 4), ∑ t : Fin 448, g h p t = ∑ k : Fin 14, ∑ r : Fin 32, g h p ⟨32 * k + r, by omega⟩ :=
    fun h p => sum_groups 14 32 448 rfl _
  simp only [e1, e2]
  rw [Finset.sum_comm]
  exact Finset.sum_congr rfl fun h _ => Finset.sum_comm

end Cert.Proof.Tile

end
-- ==== Proof.Arrays.lean ====
/-
  The kernel's result array after the whole grid, index by index: the blocks of the operands as elements of the arguments,
  what each grid point leaves, and the element of the result they give.
-/
module

public import proofs.«01_k».proof.Proof.Block
public import proofs.«01_k».proof.Proof.Formula
public import proofs.«01_k».proof.Proof.Gen.KernelIdeal.Value
public import Idealize.ShloMosaic.Lib.Claim
public import Idealize.ShloMosaic.Lib.Pipeline.ValueKit

@[expose] public section

set_option maxRecDepth 16384

noncomputable section

namespace Cert.Proof.Tile

open Idealize.ShloMosaic Idealize.ShloMosaic.TcCoe Idealize.SL.Sem Cert.KernelIdeal Cert.KernelIdeal.Gen

open scoped BigOperators

variable (m : (ℓ : Loc nD τ sig) → Buf (Elt Ideal) ℓ)

/-! ## The blocks of the operands -/

/-- Each window's block index at each grid point. -/
theorem index_at : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The activations as a matrix. -/
def activations (x : Vec Ideal S256x1x3584 .bf16) : Vec Ideal S256x3584 .bf16 := fun y => x (ix3 (y 0 : Fin 256) (0 : Fin 1) (y 1 : Fin 3584))

/-- Every grid point's block of the activations is the whole matrix. -/
theorem iblk_x (c : Dev nD) (t : Fin cfg0.N) :
    iblk m c 0 t = activations (m ((c : Thread nD τ).loc main_arg0)) := by
  funext y
  unfold activations
  blk_ext! [iblk, V, index_at t]

/-- Grid point `t`'s block of the weight bytes is columns `128 t` to `128 t + 127`. -/
theorem iblk_w (c : Dev nD) (t : Fin cfg0.N) (r : Fin 1792) (l : Fin 128) :
    iblk m c 1 t (ix2 r l) = m ((c : Thread nD τ).loc main_arg1) (ix2 r (⟨128 * t.val + l.val, by have h : t.val < 74 := t.isLt; omega⟩ : Fin 9472)) := by
  blk_ext! [iblk, V, index_at t]

/-- Grid point `t`'s block of the position bytes is columns `256 t` to `256 t + 255`. -/
theorem iblk_i (c : Dev nD) (t : Fin cfg0.N) (r : Fin 448) (l : Fin 256) :
    iblk m c 2 t (ix2 r l) = m ((c : Thread nD τ).loc main_arg2) (ix2 r (⟨256 * t.val + l.val, by have h : t.val < 74 := t.isLt; omega⟩ : Fin 18944)) := by
  blk_ext! [iblk, V, index_at t]

/-- Grid point `t`'s block of the scales is columns `256 t` to `256 t + 255`. -/
theorem iblk_s (c : Dev nD) (t : Fin cfg0.N) (r : Fin 28) (l : Fin 256) :
    iblk m c 3 t (ix2 r l) = m ((c : Thread nD τ).loc main_arg3) (ix2 r (⟨256 * t.val + l.val, by have h : t.val < 74 := t.isLt; omega⟩ : Fin 18944)) := by
  blk_ext! [iblk, V, index_at t]

/-! ## The grid points in order -/

/-- What every grid point leaves: its block of the result, and the scratch of permuted columns, which is the same at all. -/
theorem outs_eq (c : Dev nD) : ∀ (n : ℕ) (hn : n < cfg0.N),
    outsAt0 m c n hn = (blockAt (iblk m c 0 ⟨n, hn⟩) (iblk m c 1 ⟨n, hn⟩) (iblk m c 2 ⟨n, hn⟩) (iblk m c 3 ⟨n, hn⟩),
      columnAt (xTile (activations (m ((c : Thread nD τ).loc main_arg0))))) := by
  intro n
  induction n with
  | zero =>
    intro hn
    rw [outsAt0_A m c ⟨0, hn⟩ (Nat.zero_mod _), out_A, sout_A]
    exact congrArg _ (congrArg (fun x => columnAt (xTile x)) (iblk_x m c ⟨0, hn⟩))
  | succ n ih =>
    intro hn
    have hN : n + 1 < 74 := hn
    have h0 : ¬ (n + 1) % 74 = 0 := by omega
    refine (outsAt0_B m c ⟨n + 1, hn⟩ h0).trans ?_
    have e : (outsAt0 m c n (Nat.lt_of_succ_lt hn)).2 = columnAt (xTile (iblk m c 0 ⟨n + 1, hn⟩)) := by
      rw [ih]
      exact congrArg (fun x => columnAt (xTile x)) (iblk_x m c ⟨n + 1, hn⟩).symm
    refine Prod.ext ?_ ?_
    · refine Eq.trans ?_ (out_B c (grid0.coords ⟨n + 1, hn⟩) _ (hs0_0 ⟨n + 1, hn⟩) _ (hs0_1 ⟨n + 1, hn⟩) _ (hs0_2 ⟨n + 1, hn⟩) _ (hs0_3 ⟨n + 1, hn⟩) _
        (hs0_4 ⟨n + 1, hn⟩) scM0_0 (Memref.isWhole_whole _) scM0_1 (Memref.isWhole_whole _) (fun h => h0 ((hcond0_0 ⟨n + 1, hn⟩).mp h)) _ _ _ _)
      rw [← e]
      rfl
    · refine e.trans ?_
      exact congrArg (fun x => columnAt (xTile x)) (iblk_x m c ⟨n + 1, hn⟩)

/-! ## The result -/

/-- A block of the result, when the blocks of the operands are those of grid point `T`. -/
theorem blockAt_apply (A : Operands) (ho : A.Ordered) (T : Fin 74) (x1 : Vec Ideal S1792x128 .i8) (x2 : Vec Ideal S448x256 .i8)
    (x3 : Vec Ideal S28x256 .bf16)
    (hw : ∀ (r : Fin 1792) (l : Fin 128), x1 (ix2 r l) = A.w (ix2 r (⟨128 * T + l, by omega⟩ : Fin 9472)))
    (hi : ∀ (r : Fin 448) (l : Fin 256), x2 (ix2 r l) = A.i (ix2 r (⟨256 * T + l, by omega⟩ : Fin 18944)))
    (hs : ∀ (r : Fin 28) (l : Fin 256), x3 (ix2 r l) = A.s (ix2 r (⟨256 * T + l, by omega⟩ : Fin 18944)))
    (r y : Fin 256) :
    blockAt (activations A.x) x1 x2 x3 (ix2 r y) = A.result r ⟨256 * T + y, by omega⟩ := by
  show blockSum _ _ _ _ (ix2 r (merged y)) = _
  rw [blockSum_apply]
  refine sum_tiles _ (fun h p t => A.term r ⟨256 * T + y, by omega⟩ h p t) fun k h p q => ?_
  have ei : iTile x2 k (ix2 q (⟨2 * (y / 2) + y % 2, by omega⟩ : Fin 256))
      = A.i (ix2 (⟨32 * k + q, by omega⟩ : Fin 448) (⟨256 * T + y, by omega⟩ : Fin 18944)) := by
    refine (hi ⟨32 * k + q, by omega⟩ ⟨2 * (y / 2) + y % 2, by omega⟩).trans ?_
    congr 2
    exact Fin.ext (by show 256 * T.val + (2 * (y.val / 2) + y.val % 2) = 256 * T.val + y.val; omega)
  have ew : ∀ (d : ℕ) (hd : d < 2), wTile x1 k (ix2 (⟨4 * q + (2 * h + d), by omega⟩ : Fin 128) (⟨y / 2, by omega⟩ : Fin 128))
      = A.w (ix2 (⟨4 * (32 * k + q) + (2 * h + d), by omega⟩ : Fin 1792) (⟨(256 * T + y) / 2, by omega⟩ : Fin 9472)) := by
    intro d hd
    refine (hw ⟨128 * k + (4 * q + (2 * h + d)), by omega⟩ ⟨y / 2, by omega⟩).trans ?_
    congr 2
    · exact Fin.ext (by show 128 * k.val + (4 * q.val + (2 * h.val + d)) = 4 * (32 * k.val + q.val) + (2 * h.val + d); omega)
    · exact Fin.ext (by show 128 * T.val + y.val / 2 = (256 * T.val + y.val) / 2; omega)
  have ew0 : wTile x1 k (ix2 (⟨4 * q + 2 * h, by omega⟩ : Fin 128) (⟨y / 2, by omega⟩ : Fin 128))
      = A.w (ix2 (⟨4 * (32 * k + q) + 2 * h, by omega⟩ : Fin 1792) (⟨(256 * T + y) / 2, by omega⟩ : Fin 9472)) := ew 0 (by omega)
  have ew1 := ew 1 (by omega)
  have es : rawTile x3 ⟨2 * (y % 2) + q / 16, by omega⟩ k (ix4 (0 : Fin 1) (0 : Fin 1) (⟨q % 2, by omega⟩ : Fin 2) (⟨y / 2, by omega⟩ : Fin 128))
      = A.s (ix2 (⟨(32 * k + q) / 16, by omega⟩ : Fin 28) (⟨256 * T + y, by omega⟩ : Fin 18944)) * ((1/16 : ℝ) : EReal) := by
    refine congrArg (· * ((1/16 : ℝ) : EReal)) ((hs ⟨2 * k + (2 * (y % 2) + q / 16) % 2, by omega⟩
      ⟨2 * (y / 2) + (2 * (y % 2) + q / 16) / 2, by omega⟩).trans ?_)
    congr 2
    · exact Fin.ext (by show 2 * k.val + (2 * (y.val % 2) + q.val / 16) % 2 = (32 * k.val + q.val) / 16; omega)
    · exact Fin.ext (by show 256 * T.val + (2 * (y.val / 2) + (2 * (y.val % 2) + q.val / 16) / 2) = 256 * T.val + y.val; omega)
  have W := weights_apply (wTile x1 k) (iTile x2 k) (fun j => rawTile x3 j k) h p q ⟨y % 2, by omega⟩ ⟨y / 2, by omega⟩ (by
    rw [ei]; exact ho _ _ h)
  rw [es, ei, ew0, ew1, pick_mul] at W
  have ex : xpTile (xTile (activations A.x)) k (ix3 (0 : Fin 1) r (⟨32 * (4 * h + p) + q, by omega⟩ : Fin 256))
      = A.x (ix3 r (0 : Fin 1) (⟨8 * (32 * k + q) + 4 * h + p, by omega⟩ : Fin 3584)) := by
    refine congrArg A.x ?_
    refine congrArg (ix3 r (0 : Fin 1)) (Fin.ext ?_)
    show 256 * k.val + (8 * ((32 * (4 * h.val + p.val) + q.val) % 32) + (32 * (4 * h.val + p.val) + q.val) / 32)
      = 8 * (32 * k.val + q.val) + 4 * h.val + p.val
    omega
  have ec : (⟨y % 2, by omega⟩ : Fin 2) = ⟨(256 * T + y) % 2, by omega⟩ := Fin.ext (by show y.val % 2 = (256 * T.val + y.val) % 2; omega)
  refine congrArg₂ (· * ·) ex (W.trans ?_)
  rw [ec]
  rfl

/-- The kernel's arguments. -/
def operands (c : Dev nD) : Operands where
  x := m ((c : Thread nD τ).loc main_arg0)
  w := m ((c : Thread nD τ).loc main_arg1)
  i := m ((c : Thread nD τ).loc main_arg2)
  s := m ((c : Thread nD τ).loc main_arg3)

/-- The result array, index by index. -/
theorem result_eq (c : Dev nD) (ho : (operands m c).Ordered) (r : Fin 256) (j : Fin 18944) :
    Value.G4 m c (ix2 r j) = (operands m c).result r j := by
  have hN : Value.pt4Of (ix2 r j) < cfg0.N := by
    show 74 * (r.val / 256 - 0) + 1 * (j.val / 256 - 0) < 74
    omega
  unfold Value.G4
  rw [dif_pos hN, ← Value.outsAt0_sweep m c _ hN, outs_eq]
  have hT : Value.pt4Of (ix2 r j) = j.val / 256 := by
    show 74 * (r.val / 256 - 0) + 1 * (j.val / 256 - 0) = j.val / 256
    omega
  have el : Value.loc4Of (ix2 r j) = ix2 r (⟨j % 256, by omega⟩ : Fin 256) := by
    funext a
    match a with
    | 0 => exact Fin.ext (by show r.val % 256 = r.val; omega)
    | 1 => rfl
  have et : (⟨Value.pt4Of (ix2 r j), hN⟩ : Fin cfg0.N) = ⟨j.val / 256, hT ▸ hN⟩ := Fin.ext hT
  rw [et, el, iblk_x]
  refine (blockAt_apply (operands m c) ho ⟨j.val / 256, by omega⟩ _ _ _ (iblk_w m c _) (iblk_i m c _) (iblk_s m c _) r
    ⟨j % 256, by omega⟩).trans ?_
  congr 1
  exact Fin.ext (by show 256 * (j.val / 256) + j.val % 256 = j.val; omega)

end Cert.Proof.Tile

end
-- ==== Proof.Reference.lean ====
/-
  The reference's result, index by index.
-/
module

public import proofs.«01_k».proof.Proof.Formula
public import proofs.«01_k».proof.Proof.Gen.ReferenceIdeal.Run
public import Idealize.ShloMosaic.Lib.Pointwise

@[expose] public section

set_option maxRecDepth 16384

noncomputable section

namespace Cert.Proof.Reference

open Idealize.ShloMosaic Idealize.ShloMosaic.TcCoe Idealize.SL.Sem Idealize.ShloMosaic.StableHlo
open Cert.ReferenceIdeal Cert.ReferenceIdeal.Gen Cert.ReferenceIdeal.Value
open Cert.Proof.Tile (quant field pick Operands)

open scoped BigOperators

variable (V : Valuation τ sig (Elt Ideal))

/-- The reference's arguments. -/
def operands : Operands where
  x := V (Proc.devRef .tc main_arg0)
  w := V (Proc.devRef .tc main_arg1)
  i := V (Proc.devRef .tc main_arg2)
  s := V (Proc.devRef .tc main_arg3)

/-- The activations, with the contracted axis split into groups of eight, halves and positions. -/
theorem x_at (r : Fin 256) (t : Fin 448) (h : Fin 2) (p : Fin 4) :
    res_main_v0 V (ix5 r (0 : Fin 1) t h p) = (operands V).x (ix3 r (0 : Fin 1) (⟨8 * t + 4 * h + p, by omega⟩ : Fin 3584)) := by
  pointwise [res_main_v0, operands]
  congr 2
  exact Fin.ext (by show t.val * 8 + h.val * 4 + p.val = 8 * t.val + 4 * h.val + p.val; omega)

/-- A choice on whether two words are equal. -/
theorem select_eq (a b : BitVec 32) (x y : EReal) : Scalar.select (IntOp.cmpi .eq a b) x y = if a = b then x else y := by
  unfold Scalar.select IntOp.cmpi
  by_cases e : a = b
  · simp [e]
  · have e' : (a == b) = false := by simpa using e
    simp [e, e']

/-- One product of a tile of activations with a matrix chosen, element by element, by two matrices of positions. -/
theorem dot_at (X : FVec Ideal S256x1x448x2x4 .bf16) (P0 P1 : IVec S448x2x9472 32) (Q0 Q1 : FVec Ideal S448x2x9472 .bf16) (h p : ℕ)
    (hh : h < 2) (hp : p < 4) (w : BitVec 32) (hx) (hq) (r : Fin 256) (l : Fin 9472) :
    Host.dotGeneral (F := Ideal) dot_S256x1x448_S448x9472_S256x1x9472_2_0_01_1_n_n none
      (shapeCast _ (extractStridedSlice S256x1x448x1x1 ![0, 0, 0, h, p] X hx) shapeCasts_S256x1x448x1x1_S256x1x448)
      (select (cmpi .eq (shapeCast _ (extractStridedSlice S448x1x9472 ![0, h, 0] P0 hq) shapeCasts_S448x1x9472_S448x9472)
          (broadcastInDim S448x9472 ![] bcast_S_S448x9472 (constantI S_ 32 w)))
        (shapeCast _ (extractStridedSlice S448x1x9472 ![0, h, 0] Q0 hq) shapeCasts_S448x1x9472_S448x9472)
        (select (cmpi .eq (shapeCast _ (extractStridedSlice S448x1x9472 ![0, h, 0] P1 hq) shapeCasts_S448x1x9472_S448x9472)
            (broadcastInDim S448x9472 ![] bcast_S_S448x9472 (constantI S_ 32 w)))
          (shapeCast _ (extractStridedSlice S448x1x9472 ![0, h, 0] Q1 hq) shapeCasts_S448x1x9472_S448x9472)
          (broadcastInDim S448x9472 ![] bcast_S_S448x9472 (constant S_ .bf16 0x0000#16))))
      (ix3 r (0 : Fin 1) l)
    = ∑ t : Fin 448, X (ix5 r (0 : Fin 1) t (⟨h, hh⟩ : Fin 2) (⟨p, hp⟩ : Fin 4))
        * (if P0 (ix3 t (⟨h, hh⟩ : Fin 2) l) = w then Q0 (ix3 t (⟨h, hh⟩ : Fin 2) l)
            else if P1 (ix3 t (⟨h, hh⟩ : Fin 2) l) = w then Q1 (ix3 t (⟨h, hh⟩ : Fin 2) l) else 0) := by
  pointwise
  simp only [select_eq]

/-! ## Positions and weights -/

/-- The shift amounts of the two halves, as the two columns' programs hold them. -/
theorem lit0_at (h : Fin 2) : lit0 (S2.rowMajor (ix1 h)) = BitVec.ofNat 32 (4 * h) := by
  match h with
  | 0 => rfl
  | 1 => rfl

/-- The shift amounts of the two halves, of the odd columns. -/
theorem lit1_at (h : Fin 2) : lit1 (S2.rowMajor (ix1 h)) = BitVec.ofNat 32 (4 * h) := lit0_at h

/-- A position, computed on a 32-bit word, is the field of the byte. -/
theorem position_word (h d : Fin 2) (b : BitVec 8) :
    IntOp.andi (IntOp.shrsi ArithUnit.host (BitVec.setWidth 32 b) (IntOp.addi (BitVec.ofNat 32 (4 * h)) (BitVec.ofNat 32 (2 * d)))) 3#32
      = BitVec.ofNat 32 (field (4 * h + 2 * d) b) := by
  have e : (IntOp.addi (BitVec.ofNat 32 (4 * h)) (BitVec.ofNat 32 (2 * d))).toNat < 32 := by
    revert h d
    decide
  unfold IntOp.shrsi
  rw [if_pos e]
  clear e
  unfold IntOp.andi IntOp.addi field
  revert h d b
  decide +kernel

/-- A field of a byte is one of four. -/
theorem field_lt (k : ℕ) (b : BitVec 8) : field k b < 4 := by
  unfold field
  rw [BitVec.toNat_and]
  exact lt_of_le_of_lt Nat.and_le_right (by decide)

/-- Two positions are equal as words when they are equal. -/
theorem position_eq (k p : ℕ) (hp : p < 4) (b : BitVec 8) : BitVec.ofNat 32 (field k b) = BitVec.ofNat 32 p ↔ field k b = p := by
  have h := field_lt k b
  constructor
  · intro e
    have e' := congrArg BitVec.toNat e
    rw [BitVec.toNat_ofNat, BitVec.toNat_ofNat] at e'
    omega
  · intro e
    rw [e]

/-- The bf16 word `0x4100` is eight. -/
theorem eight : Ideal.ofBits .bf16 16640#16 = ((8 : ℝ) : EReal) := by
  simp [Ideal.ofBits, Ideal.ieee]
  rw [← EReal.coe_mul]
  norm_num

/-- The four bits of a weight, computed on a 32-bit word. -/
theorem nibble_word (c : Fin 2) (b : BitVec 8) :
    (IntOp.andi (IntOp.shrsi ArithUnit.host (BitVec.setWidth 32 b) (BitVec.ofNat 32 (4 * c))) 15#32).toInt - 8 = quant c b := by
  have e : (BitVec.ofNat 32 (4 * c)).toNat < 32 := by
    revert c
    decide
  unfold IntOp.shrsi
  rw [if_pos e]
  clear e
  unfold IntOp.andi quant
  revert c b
  decide +kernel

/-- A weight, computed in floats from a 32-bit word. -/
theorem weight_word (c : Fin 2) (b : BitVec 8) :
    FloatOps.sitofp (F := Ideal) .bf16 (IntOp.andi (IntOp.shrsi ArithUnit.host (BitVec.setWidth 32 b) (BitVec.ofNat 32 (4 * c))) 15#32)
      - Ideal.ofBits .bf16 16640#16 = ((quant c b : ℝ) : EReal) := by
  rw [eight, ← nibble_word]
  show ((((IntOp.andi (IntOp.shrsi ArithUnit.host (BitVec.setWidth 32 b) (BitVec.ofNat 32 (4 * c))) 15#32).toInt : ℝ) : EReal) - ((8 : ℝ) : EReal)) = _
  rw [← EReal.coe_sub]
  push_cast
  rfl

/-- An odd column, written as the strided slice names it. -/
theorem odd_column (l : Fin 9472) : (⟨2 * l + 1, by omega⟩ : Fin 18944) = ⟨1 + 2 * l, by omega⟩ :=
  Fin.ext (by show 2 * l.val + 1 = 1 + 2 * l.val; omega)

/-- The first positions, of the even columns. -/
theorem p0_even (t : Fin 448) (h : Fin 2) (l : Fin 9472) :
    res_main_v28 V (ix3 t h l) = BitVec.ofNat 32 (field (4 * h) ((operands V).i (ix2 t (⟨2 * l + 0, by omega⟩ : Fin 18944)))) := by
  pointwise [res_main_v28, res_main_v4, res_main_v1, res_main_v9, operands]
  rw [lit0_at]
  exact position_word h 0 _

/-- The second positions, of the even columns. -/
theorem p1_even (t : Fin 448) (h : Fin 2) (l : Fin 9472) :
    res_main_v47 V (ix3 t h l) = BitVec.ofNat 32 (field (4 * h + 2) ((operands V).i (ix2 t (⟨2 * l + 0, by omega⟩ : Fin 18944)))) := by
  pointwise [res_main_v47, res_main_v4, res_main_v1, res_main_v9, operands]
  rw [lit0_at]
  exact position_word h 1 _

/-- The first positions, of the odd columns. -/
theorem p0_odd (t : Fin 448) (h : Fin 2) (l : Fin 9472) :
    res_main_v215 V (ix3 t h l) = BitVec.ofNat 32 (field (4 * h) ((operands V).i (ix2 t (⟨2 * l + 1, by omega⟩ : Fin 18944)))) := by
  rw [odd_column]
  pointwise [res_main_v215, res_main_v191, res_main_v1, res_main_v196, operands]
  rw [lit1_at]
  exact position_word h 0 _

/-- The second positions, of the odd columns. -/
theorem p1_odd (t : Fin 448) (h : Fin 2) (l : Fin 9472) :
    res_main_v234 V (ix3 t h l) = BitVec.ofNat 32 (field (4 * h + 2) ((operands V).i (ix2 t (⟨2 * l + 1, by omega⟩ : Fin 18944)))) := by
  rw [odd_column]
  pointwise [res_main_v234, res_main_v191, res_main_v1, res_main_v196, operands]
  rw [lit1_at]
  exact position_word h 1 _

/-- The first weights, of the even columns. -/
theorem q0_even (t : Fin 448) (h : Fin 2) (l : Fin 9472) :
    res_main_v20 V (ix3 t h l) = ((quant 0 ((operands V).w (ix2 (⟨4 * t + 2 * h, by omega⟩ : Fin 1792) l)) : ℝ) : EReal)
      * (operands V).s (ix2 (⟨t / 16, by omega⟩ : Fin 28) (⟨2 * l + 0, by omega⟩ : Fin 18944)) := by
  have e : (⟨4 * t + 2 * h, by omega⟩ : Fin 1792) = ⟨t * 4 + h * 2, by omega⟩ := Fin.ext (by show 4 * t.val + 2 * h.val = t.val * 4 + h.val * 2; omega)
  rw [e]
  pointwise [res_main_v20, res_main_v3, res_main_v8, operands]
  exact congrArg (· * _) (weight_word 0 _)

/-- The second weights, of the even columns. -/
theorem q1_even (t : Fin 448) (h : Fin 2) (l : Fin 9472) :
    res_main_v39 V (ix3 t h l) = ((quant 0 ((operands V).w (ix2 (⟨4 * t + (2 * h + 1), by omega⟩ : Fin 1792) l)) : ℝ) : EReal)
      * (operands V).s (ix2 (⟨t / 16, by omega⟩ : Fin 28) (⟨2 * l + 0, by omega⟩ : Fin 18944)) := by
  have e : (⟨4 * t + (2 * h + 1), by omega⟩ : Fin 1792) = ⟨t * 4 + h * 2 + 1, by omega⟩ :=
    Fin.ext (by show 4 * t.val + (2 * h.val + 1) = t.val * 4 + h.val * 2 + 1; omega)
  rw [e]
  pointwise [res_main_v39, res_main_v3, res_main_v8, operands]
  exact congrArg (· * _) (weight_word 0 _)

/-- The first weights, of the odd columns. -/
theorem q0_odd (t : Fin 448) (h : Fin 2) (l : Fin 9472) :
    res_main_v207 V (ix3 t h l) = ((quant 1 ((operands V).w (ix2 (⟨4 * t + 2 * h, by omega⟩ : Fin 1792) l)) : ℝ) : EReal)
      * (operands V).s (ix2 (⟨t / 16, by omega⟩ : Fin 28) (⟨2 * l + 1, by omega⟩ : Fin 18944)) := by
  have e : (⟨4 * t + 2 * h, by omega⟩ : Fin 1792) = ⟨t * 4 + h * 2, by omega⟩ := Fin.ext (by show 4 * t.val + 2 * h.val = t.val * 4 + h.val * 2; omega)
  rw [e, odd_column]
  pointwise [res_main_v207, res_main_v3, res_main_v195, operands]
  exact congrArg (· * _) (weight_word 1 _)

/-- The second weights, of the odd columns. -/
theorem q1_odd (t : Fin 448) (h : Fin 2) (l : Fin 9472) :
    res_main_v226 V (ix3 t h l) = ((quant 1 ((operands V).w (ix2 (⟨4 * t + (2 * h + 1), by omega⟩ : Fin 1792) l)) : ℝ) : EReal)
      * (operands V).s (ix2 (⟨t / 16, by omega⟩ : Fin 28) (⟨2 * l + 1, by omega⟩ : Fin 18944)) := by
  have e : (⟨4 * t + (2 * h + 1), by omega⟩ : Fin 1792) = ⟨t * 4 + h * 2 + 1, by omega⟩ :=
    Fin.ext (by show 4 * t.val + (2 * h.val + 1) = t.val * 4 + h.val * 2 + 1; omega)
  rw [e, odd_column]
  pointwise [res_main_v226, res_main_v3, res_main_v195, operands]
  exact congrArg (· * _) (weight_word 1 _)

/-! ## The sums -/

/-- One product of the reference, as a sum of the terms of the formula. -/
theorem dot_term (A : Operands) (c : Fin 2) (X : FVec Ideal S256x1x448x2x4 .bf16) (P0 P1 : IVec S448x2x9472 32)
    (Q0 Q1 : FVec Ideal S448x2x9472 .bf16)
    (hX : ∀ (r : Fin 256) (t : Fin 448) (h : Fin 2) (p : Fin 4),
      X (ix5 r (0 : Fin 1) t h p) = A.x (ix3 r (0 : Fin 1) (⟨8 * t + 4 * h + p, by omega⟩ : Fin 3584)))
    (hP0 : ∀ (t : Fin 448) (h : Fin 2) (l : Fin 9472),
      P0 (ix3 t h l) = BitVec.ofNat 32 (field (4 * h) (A.i (ix2 t (⟨2 * l + c, by omega⟩ : Fin 18944)))))
    (hP1 : ∀ (t : Fin 448) (h : Fin 2) (l : Fin 9472),
      P1 (ix3 t h l) = BitVec.ofNat 32 (field (4 * h + 2) (A.i (ix2 t (⟨2 * l + c, by omega⟩ : Fin 18944)))))
    (hQ0 : ∀ (t : Fin 448) (h : Fin 2) (l : Fin 9472),
      Q0 (ix3 t h l) = ((quant c (A.w (ix2 (⟨4 * t + 2 * h, by omega⟩ : Fin 1792) l)) : ℝ) : EReal)
        * A.s (ix2 (⟨t / 16, by omega⟩ : Fin 28) (⟨2 * l + c, by omega⟩ : Fin 18944)))
    (hQ1 : ∀ (t : Fin 448) (h : Fin 2) (l : Fin 9472),
      Q1 (ix3 t h l) = ((quant c (A.w (ix2 (⟨4 * t + (2 * h + 1), by omega⟩ : Fin 1792) l)) : ℝ) : EReal)
        * A.s (ix2 (⟨t / 16, by omega⟩ : Fin 28) (⟨2 * l + c, by omega⟩ : Fin 18944)))
    (r : Fin 256) (l : Fin 9472) (h p : ℕ) (hh : h < 2) (hp : p < 4) (hx) (hq) :
    Host.dotGeneral (F := Ideal) dot_S256x1x448_S448x9472_S256x1x9472_2_0_01_1_n_n none
      (shapeCast _ (extractStridedSlice S256x1x448x1x1 ![0, 0, 0, h, p] X hx) shapeCasts_S256x1x448x1x1_S256x1x448)
      (select (cmpi .eq (shapeCast _ (extractStridedSlice S448x1x9472 ![0, h, 0] P0 hq) shapeCasts_S448x1x9472_S448x9472)
          (broadcastInDim S448x9472 ![] bcast_S_S448x9472 (constantI S_ 32 (BitVec.ofNat 32 p))))
        (shapeCast _ (extractStridedSlice S448x1x9472 ![0, h, 0] Q0 hq) shapeCasts_S448x1x9472_S448x9472)
        (select (cmpi .eq (shapeCast _ (extractStridedSlice S448x1x9472 ![0, h, 0] P1 hq) shapeCasts_S448x1x9472_S448x9472)
            (broadcastInDim S448x9472 ![] bcast_S_S448x9472 (constantI S_ 32 (BitVec.ofNat 32 p))))
          (shapeCast _ (extractStridedSlice S448x1x9472 ![0, h, 0] Q1 hq) shapeCasts_S448x1x9472_S448x9472)
          (broadcastInDim S448x9472 ![] bcast_S_S448x9472 (constant S_ .bf16 0x0000#16))))
      (ix3 r (0 : Fin 1) l)
    = ∑ t : Fin 448, A.term r ⟨2 * l + c, by omega⟩ ⟨h, hh⟩ ⟨p, hp⟩ t := by
  rw [dot_at X P0 P1 Q0 Q1 h p hh hp]
  refine Finset.sum_congr rfl fun t _ => ?_
  have ec : (⟨(2 * l + c) % 2, by omega⟩ : Fin 2) = c := Fin.ext (by show (2 * l.val + c.val) % 2 = c.val; omega)
  have el : (⟨(2 * l + c) / 2, by omega⟩ : Fin 9472) = l := Fin.ext (by show (2 * l.val + c.val) / 2 = l.val; omega)
  rw [hX, hP0, hP1, hQ0, hQ1]
  unfold Operands.term Operands.weight pick
  simp only [position_eq _ p hp, ec, el]

/-- The even columns of the result. -/
theorem even_at (r : Fin 256) (l : Fin 9472) :
    res_main_v190 V (ix3 r (0 : Fin 1) l) = (operands V).result r ⟨2 * l + 0, by omega⟩ := by
  have d := dot_term (operands V) 0 (res_main_v0 V) (res_main_v28 V) (res_main_v47 V) (res_main_v20 V) (res_main_v39 V)
    (x_at V) (p0_even V) (p1_even V) (q0_even V) (q1_even V) r l
  unfold res_main_v190 res_main_v118 addf
  simp only [Ideal.addf_def]
  rw [d 0 0 (by omega) (by omega), d 0 1 (by omega) (by omega), d 0 2 (by omega) (by omega), d 0 3 (by omega) (by omega),
    d 1 0 (by omega) (by omega), d 1 1 (by omega) (by omega), d 1 2 (by omega) (by omega), d 1 3 (by omega) (by omega)]
  unfold Operands.result
  rw [Fin.sum_univ_two, Fin.sum_univ_four, Fin.sum_univ_four]
  simp only [add_assoc]
  rfl

/-- The odd columns of the result. -/
theorem odd_at (r : Fin 256) (l : Fin 9472) :
    res_main_v377 V (ix3 r (0 : Fin 1) l) = (operands V).result r ⟨2 * l + 1, by omega⟩ := by
  have d := dot_term (operands V) 1 (res_main_v0 V) (res_main_v215 V) (res_main_v234 V) (res_main_v207 V) (res_main_v226 V)
    (x_at V) (p0_odd V) (p1_odd V) (q0_odd V) (q1_odd V) r l
  unfold res_main_v377 res_main_v305 addf
  simp only [Ideal.addf_def]
  rw [d 0 0 (by omega) (by omega), d 0 1 (by omega) (by omega), d 0 2 (by omega) (by omega), d 0 3 (by omega) (by omega),
    d 1 0 (by omega) (by omega), d 1 1 (by omega) (by omega), d 1 2 (by omega) (by omega), d 1 3 (by omega) (by omega)]
  unfold Operands.result
  rw [Fin.sum_univ_two, Fin.sum_univ_four, Fin.sum_univ_four]
  simp only [add_assoc]
  rfl

end Cert.Proof.Reference

end
-- ==== Proof.Algebraic.lean ====
/-
  The value claim: over exact arithmetic, where the two positions of every half byte are in order, the kernel and the
  reference end with the same result array.
-/
module

public import proofs.«01_k».proof.Defs
public import proofs.«01_k».proof.Proof.Arrays
public import proofs.«01_k».proof.Proof.Reference
public import proofs.«01_k».proof.Proof.Gen.Pre_positions_ordered

@[expose] public section

set_option maxRecDepth 16384

noncomputable section

namespace Cert.Proof.Algebraic

open Idealize.ShloMosaic Idealize.ShloMosaic.TcCoe Idealize.SL.Sem Idealize.ShloMosaic.StableHlo
open Cert.Proof.Tile (field Operands)

open scoped BigOperators

section reference

open Cert.ReferenceIdeal Cert.ReferenceIdeal.Gen Cert.ReferenceIdeal.Value

/-- The reference's result array, index by index: even and odd columns interleaved. -/
theorem reference_at (V : Valuation τ sig (Elt Ideal)) (r : Fin 256) (j : Fin 18944) :
    truncf (F := Ideal) .bf16 (shapeCast _ (concatenate S256x1x9472x2 3 [⟨S256x1x9472x1, (broadcastInDim S256x1x9472x1 ![0, 1, 2] bcast_S256x1x9472_S256x1x9472x1_0_1_2 (res_main_v190 V))⟩, ⟨S256x1x9472x1, (broadcastInDim S256x1x9472x1 ![0, 1, 2] bcast_S256x1x9472_S256x1x9472x1_0_1_2 (res_main_v377 V))⟩] concatenates_S256x1x9472x1_S256x1x9472x1_S256x1x9472x2_d3) shapeCasts_S256x1x9472x2_S256x18944) bitsLt_bf16_f32 (ix2 r j)
      = (Reference.operands V).result r j := by
  pointwise
  split
  · rw [Reference.even_at]
    congr 1
    exact Fin.ext (by show 2 * (j.val / 2) + 0 = j.val; omega)
  · rw [Reference.odd_at]
    congr 1
    exact Fin.ext (by show 2 * (j.val / 2) + 1 = j.val; omega)

end reference

section precondition

/-- The precondition at one byte: the first position of each half is below the second. -/
theorem ordered_word (b : BitVec 8)
    (e : IntOp.andi (IntOp.cmpi .slt (IntOp.andi (BitVec.setWidth 32 b) 3#32) (IntOp.andi (IntOp.shrsi ArithUnit.host (BitVec.setWidth 32 b) 2#32) 3#32))
      (IntOp.cmpi .slt (IntOp.andi (IntOp.shrsi ArithUnit.host (BitVec.setWidth 32 b) 4#32) 3#32)
        (IntOp.andi (IntOp.shrsi ArithUnit.host (BitVec.setWidth 32 b) 6#32) 3#32)) = 1#1) (h : Fin 2) :
    field (4 * h) b < field (4 * h + 2) b := by
  unfold IntOp.shrsi at e
  rw [if_pos (by decide), if_pos (by decide), if_pos (by decide)] at e
  unfold IntOp.andi IntOp.cmpi at e
  unfold field
  revert h b
  decide +kernel

/-- The precondition at every byte. -/
theorem ordered_of (A : Operands) (e : Cert.Pre_positions_ordered.fn (F := Ideal) A.x A.w A.i A.s = fun _ => 1#1) : A.Ordered := by
  intro t j h
  refine ordered_word _ ?_ h
  have e' := congrFun e (ix2 t j)
  dsimp only [Cert.Pre_positions_ordered.fn, Cert.Pre_positions_ordered.fn_part1] at e'
  pointwise at e'
  exact e'

end precondition

/-- The two programs' arguments are the same. -/
theorem operands_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Reference.operands (launchContents m' c) = Tile.operands m c := by
  have e : ∀ {x x' w w' i i' s s'}, x = x' → w = w' → i = i' → s = s' → (⟨x, w, i, s⟩ : Operands) = ⟨x', w', i', s'⟩ := by
    intro x x' w w' i i' s s' ex ew ei es
    rw [ex, ew, ei, es]
  exact e h0 h1 h2 h3

/-- The kernel and the reference end with the same result array, and with their arguments unchanged. -/
theorem algebraic : Cert.algebraic_KernelIdeal_ReferenceIdeal_pre_positions_ordered := by
  intro m g m' g' hpre hagree
  refine ⟨fun c => Cert.KernelIdeal.Value.G4 m c, Cert.KernelIdeal.Value.run (F := Ideal) m g, ?_⟩
  refine (θ_run Cert.ReferenceIdeal.defs _ _).mono (fun r h c => ⟨(h c).1.trans ?_, (h c).2⟩)
    (Cert.ReferenceIdeal.Value.run (F := Ideal) m' g')
  have ho : (Tile.operands m c).Ordered := ordered_of _ (hpre c)
  have ea := operands_eq m m' c (hagree c).1 (hagree c).2.1 (hagree c).2.2.1 (hagree c).2.2.2
  funext y
  rw [eq_ix2 y]
  refine (reference_at _ (y 0) (y 1)).trans ?_
  rw [ea]
  exact (Tile.result_eq m c ho (y 0) (y 1)).symm

end Cert.Proof.Algebraic

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_positions_ordered
public import proofs.«01_k».proof.Proof.Claims
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_positions_ordered.Gen.facts,
    Claims.frame_p, Claims.frame_pi, fun m ρ _ => Claims.frame_pi m ρ trivial,
    Claims.frame_ri, fun m ρ _ => Claims.frame_ri m ρ trivial, Claims.preserves, Algebraic.algebraic⟩

end Cert.Proof

end
